-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sort (m : (ℓ : Loc Cert.Sort.nD Cert.Sort.τ Cert.Sort.sig) → Buf (Elt Bits) ℓ) : Prop :=
  True

def Pre_SortIdeal (m : (ℓ : Loc Cert.SortIdeal.nD Cert.SortIdeal.τ Cert.SortIdeal.sig) → Buf (Elt Ideal) ℓ) : Prop :=
  True

def Pre_SortIdeal_sort_pre [hPre_sort_pre : Cert.Pre_sort_pre.Facts] (m : (ℓ : Loc Cert.SortIdeal.nD Cert.SortIdeal.τ Cert.SortIdeal.sig) → Buf (Elt Ideal) ℓ) : Prop :=
  ∀ c : Dev Cert.SortIdeal.nD,
    (Cert.Pre_sort_pre.fn (F := Ideal) (m ((c.tc : Thread Cert.SortIdeal.nD Cert.SortIdeal.τ).loc Cert.SortIdeal.main_arg0)) (m ((c.tc : Thread Cert.SortIdeal.nD Cert.SortIdeal.τ).loc Cert.SortIdeal.main_arg1))) = (fun _ => 1#1)

def Pre_SortReferenceIdeal (m : (ℓ : Loc Cert.SortReferenceIdeal.nD Cert.SortReferenceIdeal.τ Cert.SortReferenceIdeal.sig) → Buf (Elt Ideal) ℓ) : Prop :=
  True

def Pre_SortReferenceIdeal_sort_pre [hPre_sort_pre : Cert.Pre_sort_pre.Facts] (m : (ℓ : Loc Cert.SortReferenceIdeal.nD Cert.SortReferenceIdeal.τ Cert.SortReferenceIdeal.sig) → Buf (Elt Ideal) ℓ) : Prop :=
  ∀ c : Dev Cert.SortReferenceIdeal.nD,
    (Cert.Pre_sort_pre.fn (F := Ideal) (m ((c.tc : Thread Cert.SortReferenceIdeal.nD Cert.SortReferenceIdeal.τ).loc Cert.SortReferenceIdeal.main_arg0)) (m ((c.tc : Thread Cert.SortReferenceIdeal.nD Cert.SortReferenceIdeal.τ).loc Cert.SortReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Sort [hSort : Cert.Sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (onTc (τ := Cert.Sort.τ) (Cert.Sort.main (F := Bits))) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0)
      ∧ r.2.mem ((c.tc : Thread Cert.Sort.nD Cert.Sort.τ).loc Cert.Sort.main_arg1) = m ((c.tc : Thread Cert.Sort.nD Cert.Sort.τ).loc Cert.Sort.main_arg1))
      ∧ r.2.sem = fun _ => 0)

def quiescent_SortIdeal [hSortIdeal : Cert.SortIdeal.Facts] : Prop :=
  ∀ (m : (ℓ : Loc Cert.SortIdeal.nD Cert.SortIdeal.τ Cert.SortIdeal.sig) → Buf (Elt Ideal) ℓ) (g : Dev Cert.SortIdeal.nD → PrngReg), Pre_SortIdeal m →
    θ_run (Cert.SortIdeal.defs (F := Ideal)) (onTc (τ := Cert.SortIdeal.τ) (Cert.SortIdeal.main (F := Ideal))) ⟨m, fun _ => 0, g⟩ (fun r => (∀ c : Dev Cert.SortIdeal.nD,
      r.2.mem ((c.tc : Thread Cert.SortIdeal.nD Cert.SortIdeal.τ).loc Cert.SortIdeal.main_arg0) = m ((c.tc : Thread Cert.SortIdeal.nD Cert.SortIdeal.τ).loc Cert.SortIdeal.main_arg0)
      ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ r.2.sem = fun _ => 0)

def quiescent_SortIdeal_pre_sort_pre [hSortIdeal : Cert.SortIdeal.Facts] [hPre_sort_pre : Cert.Pre_sort_pre.Facts] : Prop :=
  ∀ (m : (ℓ : Loc Cert.SortIdeal.nD Cert.SortIdeal.τ Cert.SortIdeal.sig) → Buf (Elt Ideal) ℓ) (g : Dev Cert.SortIdeal.nD → PrngReg), Pre_SortIdeal_sort_pre m →
    θ_run (Cert.SortIdeal.defs (F := Ideal)) (onTc (τ := Cert.SortIdeal.τ) (Cert.SortIdeal.main (F := Ideal))) ⟨m, fun _ => 0, g⟩ (fun r => (∀ c : Dev Cert.SortIdeal.nD,
      r.2.mem ((c.tc : Thread Cert.SortIdeal.nD Cert.SortIdeal.τ).loc Cert.SortIdeal.main_arg0) = m ((c.tc : Thread Cert.SortIdeal.nD Cert.SortIdeal.τ).loc Cert.SortIdeal.main_arg0)
      ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ r.2.sem = fun _ => 0)

def quiescent_SortReferenceIdeal [hSortReferenceIdeal : Cert.SortReferenceIdeal.Facts] : Prop :=
  ∀ (m : (ℓ : Loc Cert.SortReferenceIdeal.nD Cert.SortReferenceIdeal.τ Cert.SortReferenceIdeal.sig) → Buf (Elt Ideal) ℓ) (g : Dev Cert.SortReferenceIdeal.nD → PrngReg), Pre_SortReferenceIdeal m →
    θ_run (Cert.SortReferenceIdeal.defs (F := Ideal)) (onTc (τ := Cert.SortReferenceIdeal.τ) (Cert.SortReferenceIdeal.main (F := Ideal))) ⟨m, fun _ => 0, g⟩ (fun r => (∀ c : Dev Cert.SortReferenceIdeal.nD,
      r.2.mem ((c.tc : Thread Cert.SortReferenceIdeal.nD Cert.SortReferenceIdeal.τ).loc Cert.SortReferenceIdeal.main_arg0) = m ((c.tc : Thread Cert.SortReferenceIdeal.nD Cert.SortReferenceIdeal.τ).loc Cert.SortReferenceIdeal.main_arg0)
      ∧ r.2.mem ((c.tc : Thread Cert.SortReferenceIdeal.nD Cert.SortReferenceIdeal.τ).loc Cert.SortReferenceIdeal.main_arg1) = m ((c.tc : Thread Cert.SortReferenceIdeal.nD Cert.SortReferenceIdeal.τ).loc Cert.SortReferenceIdeal.main_arg1))
      ∧ r.2.sem = fun _ => 0)

def quiescent_SortReferenceIdeal_pre_sort_pre [hSortReferenceIdeal : Cert.SortReferenceIdeal.Facts] [hPre_sort_pre : Cert.Pre_sort_pre.Facts] : Prop :=
  ∀ (m : (ℓ : Loc Cert.SortReferenceIdeal.nD Cert.SortReferenceIdeal.τ Cert.SortReferenceIdeal.sig) → Buf (Elt Ideal) ℓ) (g : Dev Cert.SortReferenceIdeal.nD → PrngReg), Pre_SortReferenceIdeal_sort_pre m →
    θ_run (Cert.SortReferenceIdeal.defs (F := Ideal)) (onTc (τ := Cert.SortReferenceIdeal.τ) (Cert.SortReferenceIdeal.main (F := Ideal))) ⟨m, fun _ => 0, g⟩ (fun r => (∀ c : Dev Cert.SortReferenceIdeal.nD,
      r.2.mem ((c.tc : Thread Cert.SortReferenceIdeal.nD Cert.SortReferenceIdeal.τ).loc Cert.SortReferenceIdeal.main_arg0) = m ((c.tc : Thread Cert.SortReferenceIdeal.nD Cert.SortReferenceIdeal.τ).loc Cert.SortReferenceIdeal.main_arg0)
      ∧ r.2.mem ((c.tc : Thread Cert.SortReferenceIdeal.nD Cert.SortReferenceIdeal.τ).loc Cert.SortReferenceIdeal.main_arg1) = m ((c.tc : Thread Cert.SortReferenceIdeal.nD Cert.SortReferenceIdeal.τ).loc Cert.SortReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Sort_SortIdeal : Prop :=
  True

def algebraic_SortIdeal_SortReferenceIdeal_pre_sort_pre [hSortIdeal : Cert.SortIdeal.Facts] [hSortReferenceIdeal : Cert.SortReferenceIdeal.Facts] [hPre_sort_pre : Cert.Pre_sort_pre.Facts] : Prop :=
  ∀ (m : (ℓ : Loc Cert.SortIdeal.nD Cert.SortIdeal.τ Cert.SortIdeal.sig) → Buf (Elt Ideal) ℓ) (g : Dev Cert.SortIdeal.nD → PrngReg)
    (m' : (ℓ : Loc Cert.SortReferenceIdeal.nD Cert.SortReferenceIdeal.τ Cert.SortReferenceIdeal.sig) → Buf (Elt Ideal) ℓ) (g' : Dev Cert.SortReferenceIdeal.nD → PrngReg), Pre_SortIdeal_sort_pre m →
    (∀ c : Dev Cert.SortIdeal.nD,
      m' ((c.tc : Thread Cert.SortReferenceIdeal.nD Cert.SortReferenceIdeal.τ).loc Cert.SortReferenceIdeal.main_arg0) = m ((c.tc : Thread Cert.SortIdeal.nD Cert.SortIdeal.τ).loc Cert.SortIdeal.main_arg0)
      ∧ m' ((c.tc : Thread Cert.SortReferenceIdeal.nD Cert.SortReferenceIdeal.τ).loc Cert.SortReferenceIdeal.main_arg1) = m ((c.tc : Thread Cert.SortIdeal.nD Cert.SortIdeal.τ).loc Cert.SortIdeal.main_arg1)) →
    ∃ (v0 : (c : Dev Cert.SortIdeal.nD) → Buf (Elt Ideal) ((c.tc : Thread Cert.SortIdeal.nD Cert.SortIdeal.τ).loc Cert.SortIdeal.main_v12)),
      θ_run (Cert.SortIdeal.defs (F := Ideal)) (onTc (τ := Cert.SortIdeal.τ) (Cert.SortIdeal.main (F := Ideal))) ⟨m, fun _ => 0, g⟩ (fun r => ∀ c : Dev Cert.SortIdeal.nD,
          r.2.mem ((c.tc : Thread Cert.SortIdeal.nD Cert.SortIdeal.τ).loc Cert.SortIdeal.main_v12) = v0 c
          ∧ r.2.mem ((c.tc : Thread Cert.SortIdeal.nD Cert.SortIdeal.τ).loc Cert.SortIdeal.main_arg0) = m ((c.tc : Thread Cert.SortIdeal.nD Cert.SortIdeal.τ).loc Cert.SortIdeal.main_arg0)
          ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ θ_run (Cert.SortReferenceIdeal.defs (F := Ideal)) (onTc (τ := Cert.SortReferenceIdeal.τ) (Cert.SortReferenceIdeal.main (F := Ideal))) ⟨m', fun _ => 0, g'⟩ (fun r => ∀ c : Dev Cert.SortReferenceIdeal.nD,
          r.2.mem ((c.tc : Thread Cert.SortReferenceIdeal.nD Cert.SortReferenceIdeal.τ).loc Cert.SortReferenceIdeal.main_v3) = v0 c
          ∧ r.2.mem ((c.tc : Thread Cert.SortReferenceIdeal.nD Cert.SortReferenceIdeal.τ).loc Cert.SortReferenceIdeal.main_arg0) = m' ((c.tc : Thread Cert.SortReferenceIdeal.nD Cert.SortReferenceIdeal.τ).loc Cert.SortReferenceIdeal.main_arg0)
          ∧ r.2.mem ((c.tc : Thread Cert.SortReferenceIdeal.nD Cert.SortReferenceIdeal.τ).loc Cert.SortReferenceIdeal.main_arg1) = m' ((c.tc : Thread Cert.SortReferenceIdeal.nD Cert.SortReferenceIdeal.τ).loc Cert.SortReferenceIdeal.main_arg1))

def Claim : Prop :=
  ∃ (hKernel : Cert.Kernel.Facts) (hKernelIdeal : Cert.KernelIdeal.Facts) (hReferenceIdeal : Cert.ReferenceIdeal.Facts) (hSort : Cert.Sort.Facts) (hSortIdeal : Cert.SortIdeal.Facts) (hSortReferenceIdeal : Cert.SortReferenceIdeal.Facts) (hPre_sort_pre : Cert.Pre_sort_pre.Facts),
    quiescent_Kernel (hKernel := hKernel)
    ∧ quiescent_KernelIdeal (hKernelIdeal := hKernelIdeal)
    ∧ quiescent_ReferenceIdeal (hReferenceIdeal := hReferenceIdeal)
    ∧ quiescent_Sort (hSort := hSort)
    ∧ quiescent_SortIdeal (hSortIdeal := hSortIdeal)
    ∧ quiescent_SortIdeal_pre_sort_pre (hSortIdeal := hSortIdeal) (hPre_sort_pre := hPre_sort_pre)
    ∧ quiescent_SortReferenceIdeal (hSortReferenceIdeal := hSortReferenceIdeal)
    ∧ quiescent_SortReferenceIdeal_pre_sort_pre (hSortReferenceIdeal := hSortReferenceIdeal) (hPre_sort_pre := hPre_sort_pre)
    ∧ preserves_Kernel_KernelIdeal
    ∧ algebraic_KernelIdeal_ReferenceIdeal (hKernelIdeal := hKernelIdeal) (hReferenceIdeal := hReferenceIdeal)
    ∧ preserves_Sort_SortIdeal
    ∧ algebraic_SortIdeal_SortReferenceIdeal_pre_sort_pre (hSortIdeal := hSortIdeal) (hSortReferenceIdeal := hSortReferenceIdeal) (hPre_sort_pre := hPre_sort_pre)
-- ==== Pre_sort_pre.lean ====
abbrev S20000x4 : Shape := ⟨2, ![20000, 4]⟩
abbrev S20000 : Shape := ⟨1, ![20000]⟩
abbrev S_ : Shape := ⟨0, ![]⟩

class Facts : Prop where
  bcast_S_S20000x4 : S_.BroadcastsInDim S20000x4 (![] : Fin 0 → Fin S20000x4.rank)
  reducesTo_S20000x4_S_d0_1 : S20000x4.ReducesTo [0, 1] S_
  h_S_ : 0 < S_.numel
  bcast_S_S20000 : S_.BroadcastsInDim S20000 (![] : Fin 0 → Fin S20000.rank)
  reducesTo_S20000_S_d0 : S20000.ReducesTo [0] S_

variable [Facts]

def fn {F : FTy → Type} [FloatOps F] (main_arg0 : FVec F S20000x4 .f32) (main_arg1 : FVec F S20000 .f32) : IVec S_ 1 :=
  let main_cst : FVec F S_ .f32 := constant S_ .f32 0x7F800000#32
  let main_v0 : FVec F S20000x4 .f32 := broadcastInDim S20000x4 ![] bcast_S_S20000x4 main_cst
  let main_v1 : IVec S20000x4 1 := cmpf .olt main_arg0 main_v0
  let main_c : IVec S_ 1 := constantI S_ 1 1#1
  let main_v2 : IVec S_ 1 := (fun x v => Host.reduce IntOp.andi x v reducesTo_S20000x4_S_d0_1 h_S_) main_v1 main_c
  let main_cst_0 : FVec F S_ .f32 := constant S_ .f32 0x7F800000#32
  let main_v3 : FVec F S20000 .f32 := broadcastInDim S20000 ![] bcast_S_S20000 main_cst_0
  let main_v4 : IVec S20000 1 := cmpf .olt main_arg1 main_v3
  let main_c_1 : IVec S_ 1 := constantI S_ 1 1#1
  let main_v5 : IVec S_ 1 := (fun x v => Host.reduce IntOp.andi x v reducesTo_S20000_S_d0 h_S_) main_v4 main_c_1
  let main_v6 : IVec S_ 1 := andi main_v2 main_v5
  let main_cst_2 : FVec F S_ .f32 := constant S_ .f32 0xBF800000#32
  let main_v7 : FVec F S20000 .f32 := broadcastInDim S20000 ![] bcast_S_S20000 main_cst_2
  let main_v8 : IVec S20000 1 := cmpf .oge main_arg1 main_v7
  let main_c_3 : IVec S_ 1 := constantI S_ 1 1#1
  let main_v9 : IVec S_ 1 := (fun x v => Host.reduce IntOp.andi x v reducesTo_S20000_S_d0 h_S_) main_v8 main_c_3
  let main_v10 : IVec S_ 1 := andi main_v6 main_v9
  main_v10
-- ==== Kernel.lean ====
abbrev S4096x8 : Shape := ⟨2, ![4096, 8]⟩
abbrev S8x4096 : Shape := ⟨2, ![8, 4096]⟩
abbrev S4096x4096 : Shape := ⟨2, ![4096, 4096]⟩
abbrev S4096x1 : Shape := ⟨2, ![4096, 1]⟩
abbrev S1x4096 : Shape := ⟨2, ![1, 4096]⟩
abbrev S512x1 : Shape := ⟨2, ![512, 1]⟩
abbrev S512x4096 : Shape := ⟨2, ![512, 4096]⟩
abbrev S512x512 : Shape := ⟨2, ![512, 512]⟩
abbrev S1x512 : Shape := ⟨2, ![1, 512]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S4096 : Shape := ⟨1, ![4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x8, .f32⟩
  | .hbm, ⟨1, _⟩ => ⟨S8x4096, .f32⟩
  | .hbm, ⟨2, _⟩ => ⟨S4096x8, .f32⟩
  | .local _ .vmem, ⟨0, _⟩ => ⟨S4096x8, .f32⟩
  | .local _ .vmem, ⟨1, _⟩ => ⟨S8x4096, .f32⟩
  | .local _ .vmem, ⟨2, _⟩ => ⟨S4096x8, .f32⟩
  | .local _ .vmem, ⟨3, _⟩ => ⟨S4096x4096, .i8⟩
  | .local _ .vmem, ⟨4, _⟩ => ⟨S4096x1, .f32⟩
  | .local _ .vmem, ⟨5, _⟩ => ⟨S1x4096, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32_154 : BitVec 32 := 512#32
  let v302 : BitVec 32 := Scalar.muli arg6 c512_i32_154
  let v303 : Index := Scalar.indexCast v302
  let c0_155 : Index := 0#32
  ![v303.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32_154 : BitVec 32 := 512#32
  let v302 : BitVec 32 := Scalar.muli arg6 c512_i32_154
  let v305 : Index := Scalar.indexCast v302
  let c1_156 : Index := 1#32
  ![v305.toNat, 1]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32_154 : BitVec 32 := 512#32
  let v302 : BitVec 32 := Scalar.muli arg6 c512_i32_154
  let v307 : Index := Scalar.indexCast v302
  let c2_157 : Index := 2#32
  ![v307.toNat, 2]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32_154 : BitVec 32 := 512#32
  let v302 : BitVec 32 := Scalar.muli arg6 c512_i32_154
  let v309 : Index := Scalar.indexCast v302
  let c3_158 : Index := 3#32
  ![v309.toNat, 3]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32_154 : BitVec 32 := 512#32
  let v302 : BitVec 32 := Scalar.muli arg6 c512_i32_154
  let v343 : Index := Scalar.indexCast v302
  let c0_163 : Index := 0#32
  ![v343.toNat, 0]
abbrev stage0_0 : Fin 1 → Memref sig .tc .vmem S4096x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x8 : Shape := ⟨2, ![4096, 8]⟩
abbrev S4096x1 : Shape := ⟨2, ![4096, 1]⟩
abbrev S4096 : Shape := ⟨1, ![4096]⟩
abbrev S1x4096 : Shape := ⟨2, ![1, 4096]⟩
abbrev S4096x4096 : Shape := ⟨2, ![4096, 4096]⟩
abbrev S_ : Shape := ⟨0, ![]⟩
abbrev S1 : Shape := ⟨1, ![1]⟩

abbrev nBuf : Space → Nat
  | .hbm => 111
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S4096x1, .f32⟩
  | .hbm, ⟨2, _⟩ => ⟨S4096, .f32⟩
  | .hbm, ⟨3, _⟩ => ⟨S4096x1, .f32⟩
  | .hbm, ⟨4, _⟩ => ⟨S4096, .f32⟩
  | .hbm, ⟨5, _⟩ => ⟨S4096x1, .f32⟩
  | .hbm, ⟨6, _⟩ => ⟨S4096, .f32⟩
  | .hbm, ⟨7, _⟩ => ⟨S4096x1, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x1, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x1, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096, .i32⟩
  | .hbm, ⟨52, _⟩ => ⟨S_, .i1⟩
  | .hbm, ⟨53, _⟩ => ⟨S4096, .i1⟩
  | .hbm, ⟨54, _⟩ => ⟨S_, .i32⟩
  | .hbm, ⟨55, _⟩ => ⟨S_, .i32⟩
  | .hbm, ⟨56, _⟩ => ⟨S4096x4096, .f32⟩
  | .hbm, ⟨57, _⟩ => ⟨S4096, .i32⟩
  | .hbm, ⟨58, _⟩ => ⟨S_, .i32⟩
  | .hbm, ⟨59, _⟩ => ⟨S_, .i32⟩
  | .hbm, ⟨60, _⟩ => ⟨S4096, .i1⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x4096, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .i1⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1, .i1⟩
  | .hbm, ⟨91, _⟩ => ⟨S_, .i1⟩
  | .hbm, ⟨92, _⟩ => ⟨S4096, .i1⟩
  | .hbm, ⟨93, _⟩ => ⟨S4096, .i1⟩
  | .hbm, ⟨94, _⟩ => ⟨S_, .i32⟩
  | .hbm, ⟨95, _⟩ => ⟨S4096, .i32⟩
  | .hbm, ⟨96, _⟩ => ⟨S4096, .i1⟩
  | .hbm, ⟨97, _⟩ => ⟨S4096, .i1⟩
  | .hbm, ⟨98, _⟩ => ⟨S4096, .i1⟩
  | .hbm, ⟨99, _⟩ => ⟨S4096, .i1⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .f32⟩
  | .hbm, ⟨104, _⟩ => ⟨S4096, .f32⟩
  | .hbm, ⟨105, _⟩ => ⟨S4096, .f32⟩
  | .hbm, ⟨106, _⟩ => ⟨S4096, .f32⟩
  | .hbm, ⟨107, _⟩ => ⟨S4096, .f32⟩
  | .hbm, ⟨108, _⟩ => ⟨S4096x1, .f32⟩
  | .hbm, ⟨109, _⟩ => ⟨S4096x8, .f32⟩
  | .hbm, ⟨110, _⟩ => ⟨S4096x8, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_cst : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_cst_0 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_1 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_c : Ref sig .tc := ⟨.hbm, 52, rfl⟩
abbrev main_v48 : Ref sig .tc := ⟨.hbm, 53, rfl⟩
abbrev main_c_2 : Ref sig .tc := ⟨.hbm, 54, rfl⟩
abbrev main_c_3 : Ref sig .tc := ⟨.hbm, 55, rfl⟩
abbrev main_v49_0 : Ref sig .tc := ⟨.hbm, 56, rfl⟩
abbrev main_v49_1 : Ref sig .tc := ⟨.hbm, 57, rfl⟩
abbrev main_v49_2 : Ref sig .tc := ⟨.hbm, 58, rfl⟩
abbrev main_v49_3 : Ref sig .tc := ⟨.hbm, 59, rfl⟩
abbrev main_v49_4 : Ref sig .tc := ⟨.hbm, 60, rfl⟩
abbrev main_while0c_c_10 : Ref sig .tc := ⟨.hbm, 61, rfl⟩
abbrev main_while0c_v55 : Ref sig .tc := ⟨.hbm, 62, rfl⟩
abbrev main_while0b_c_10 : Ref sig .tc := ⟨.hbm, 63, rfl⟩
abbrev main_while0b_v55 : Ref sig .tc := ⟨.hbm, 64, rfl⟩
abbrev main_while0b_v56 : Ref sig .tc := ⟨.hbm, 65, rfl⟩
abbrev main_while0b_c_11 : Ref sig .tc := ⟨.hbm, 66, rfl⟩
abbrev main_while0b_v57 : Ref sig .tc := ⟨.hbm, 67, rfl⟩
abbrev main_while0b_c_12 : Ref sig .tc := ⟨.hbm, 68, rfl⟩
abbrev main_while0b_v58 : Ref sig .tc := ⟨.hbm, 69, rfl⟩
abbrev main_while0b_v59 : Ref sig .tc := ⟨.hbm, 70, rfl⟩
abbrev main_while0b_c_13 : Ref sig .tc := ⟨.hbm, 71, rfl⟩
abbrev main_while0b_c_14 : Ref sig .tc := ⟨.hbm, 72, rfl⟩
abbrev main_while0b_v60 : Ref sig .tc := ⟨.hbm, 73, rfl⟩
abbrev main_while0b_c_15 : Ref sig .tc := ⟨.hbm, 74, rfl⟩
abbrev main_while0b_c_16 : Ref sig .tc := ⟨.hbm, 75, rfl⟩
abbrev main_while0b_v61 : Ref sig .tc := ⟨.hbm, 76, rfl⟩
abbrev main_while0b_c_17 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_cst_18 : Ref sig .tc := ⟨.hbm, 81, rfl⟩
abbrev main_while0b_v65 : Ref sig .tc := ⟨.hbm, 82, rfl⟩
abbrev main_while0b_v66 : Ref sig .tc := ⟨.hbm, 83, rfl⟩
abbrev main_while0b_c_19 : Ref sig .tc := ⟨.hbm, 84, rfl⟩
abbrev main_while0b_v67 : Ref sig .tc := ⟨.hbm, 85, rfl⟩
abbrev main_while0b_v68 : Ref sig .tc := ⟨.hbm, 86, rfl⟩
abbrev main_while0b_c_20 : Ref sig .tc := ⟨.hbm, 87, rfl⟩
abbrev main_while0b_v69 : Ref sig .tc := ⟨.hbm, 88, rfl⟩
abbrev main_while0b_v70 : Ref sig .tc := ⟨.hbm, 89, rfl⟩
abbrev main_while0b_v71 : Ref sig .tc := ⟨.hbm, 90, rfl⟩
abbrev main_while0b_v72 : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_v76 : Ref sig .tc := ⟨.hbm, 95, rfl⟩
abbrev main_while0b_v77 : Ref sig .tc := ⟨.hbm, 96, rfl⟩
abbrev main_while0b_v78 : Ref sig .tc := ⟨.hbm, 97, rfl⟩
abbrev main_while0b_v79 : Ref sig .tc := ⟨.hbm, 98, rfl⟩
abbrev main_while0b_v80 : Ref sig .tc := ⟨.hbm, 99, rfl⟩
abbrev main_while0b_c_21 : Ref sig .tc := ⟨.hbm, 100, rfl⟩
abbrev main_while0b_v81 : Ref sig .tc := ⟨.hbm, 101, rfl⟩
abbrev main_cst_4 : Ref sig .tc := ⟨.hbm, 102, rfl⟩
abbrev main_cst_5 : Ref sig .tc := ⟨.hbm, 103, rfl⟩
abbrev main_call0_v0 : Ref sig .tc := ⟨.hbm, 104, rfl⟩
abbrev main_call0_v1 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩

abbrev nD : Nat := 1
abbrev τ : Topo := Topo.v7x

variable {F : FTy → Type} [FloatOps F]

abbrev main_while0_count : Scf.Loop 32 := ⟨0#32, 4096#32, 1#32⟩
-- ==== Sort.lean ====
abbrev S20000x4 : Shape := ⟨2, ![20000, 4]⟩
abbrev S20000 : Shape := ⟨1, ![20000]⟩
abbrev S_ : Shape := ⟨0, ![]⟩
abbrev S480 : Shape := ⟨1, ![480]⟩
abbrev S20480 : Shape := ⟨1, ![20480]⟩
abbrev S20480x1 : Shape := ⟨2, ![20480, 1]⟩
abbrev S1x20480 : Shape := ⟨2, ![1, 20480]⟩
abbrev S512x1 : Shape := ⟨2, ![512, 1]⟩
abbrev S512x128 : Shape := ⟨2, ![512, 128]⟩
abbrev S1x2048 : Shape := ⟨2, ![1, 2048]⟩
abbrev S512x2048 : Shape := ⟨2, ![512, 2048]⟩
abbrev S512 : Shape := ⟨1, ![512]⟩
abbrev S20000x1 : Shape := ⟨2, ![20000, 1]⟩
abbrev S20000x3 : Shape := ⟨2, ![20000, 3]⟩
abbrev S20000x8 : Shape := ⟨2, ![20000, 8]⟩
abbrev S480x8 : Shape := ⟨2, ![480, 8]⟩
abbrev S20480x8 : Shape := ⟨2, ![20480, 8]⟩
abbrev S4096x8 : Shape := ⟨2, ![4096, 8]⟩
abbrev S512x8 : Shape := ⟨2, ![512, 8]⟩
abbrev S512x24 : Shape := ⟨2, ![512, 24]⟩
abbrev S2048x8 : Shape := ⟨2, ![2048, 8]⟩
abbrev S2048x24 : Shape := ⟨2, ![2048, 24]⟩

abbrev nBuf : Space → Nat
  | .hbm => 18
  | .vmem => 11
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S_, .f32⟩
  | .hbm, ⟨3, _⟩ => ⟨S480, .f32⟩
  | .hbm, ⟨4, _⟩ => ⟨S20480, .f32⟩
  | .hbm, ⟨5, _⟩ => ⟨S20480x1, .f32⟩
  | .hbm, ⟨6, _⟩ => ⟨S1x20480, .f32⟩
  | .hbm, ⟨7, _⟩ => ⟨S1x20480, .f32⟩
  | .hbm, ⟨8, _⟩ => ⟨S20480x1, .i32⟩
  | .hbm, ⟨9, _⟩ => ⟨S20000x1, .f32⟩
  | .hbm, ⟨10, _⟩ => ⟨S_, .f32⟩
  | .hbm, ⟨11, _⟩ => ⟨S20000x3, .f32⟩
  | .hbm, ⟨12, _⟩ => ⟨S20000x8, .f32⟩
  | .hbm, ⟨13, _⟩ => ⟨S_, .f32⟩
  | .hbm, ⟨14, _⟩ => ⟨S480x8, .f32⟩
  | .hbm, ⟨15, _⟩ => ⟨S20480x8, .f32⟩
  | .hbm, ⟨16, _⟩ => ⟨S1x20480, .i32⟩
  | .hbm, ⟨17, _⟩ => ⟨S4096x8, .f32⟩
  | .local _ .vmem, ⟨0, _⟩ => ⟨S1x20480, .f32⟩
  | .local _ .vmem, ⟨1, _⟩ => ⟨S1x20480, .f32⟩
  | .local _ .vmem, ⟨2, _⟩ => ⟨S512x1, .f32⟩
  | .local _ .vmem, ⟨3, _⟩ => ⟨S512x1, .f32⟩
  | .local _ .vmem, ⟨4, _⟩ => ⟨S1x20480, .f32⟩
  | .local _ .vmem, ⟨5, _⟩ => ⟨S512x1, .i32⟩
  | .local _ .vmem, ⟨6, _⟩ => ⟨S512x1, .i32⟩
  | .local _ .vmem, ⟨7, _⟩ => ⟨S1x20480, .i32⟩
  | .local _ .vmem, ⟨8, _⟩ => ⟨S20480x8, .f32⟩
  | .local _ .vmem, ⟨9, _⟩ => ⟨S512x8, .f32⟩
  | .local _ .vmem, ⟨10, _⟩ => ⟨S512x8, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg2_1 : Ref sig .tc := ⟨.vmem, 10, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem1_0 : DmaSem sig := 8
abbrev cc2_sem2_0 : DmaSem sig := 9
abbrev cc2_sem2_1 : DmaSem sig := 10

abbrev nD : Nat := 1
abbrev τ : Topo := Topo.v7x

variable {F : FTy → Type} [FloatOps F]

abbrev grid0 : Pipeline.Grid := .none

abbrev stage0_0 : Fin 1 → Memref sig .tc .vmem S1x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x20480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x20480 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x20480 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S20480x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== SortReferenceIdeal.lean ====
abbrev S20000x4 : Shape := ⟨2, ![20000, 4]⟩
abbrev S20000 : Shape := ⟨1, ![20000]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4 : Shape := ⟨2, ![4096, 4]⟩
abbrev S4096x3 : Shape := ⟨2, ![4096, 3]⟩
abbrev S4096x8 : Shape := ⟨2, ![4096, 8]⟩

abbrev nBuf : Space → Nat
  | .hbm => 31
  | .vmem => 0
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S4096, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x4, .f32⟩
  | .hbm, ⟨23, _⟩ => ⟨S4096x4, .i1⟩
  | .hbm, ⟨24, _⟩ => ⟨S_, .f32⟩
  | .hbm, ⟨25, _⟩ => ⟨S4096x4, .f32⟩
  | .hbm, ⟨26, _⟩ => ⟨S4096x4, .f32⟩
  | .hbm, ⟨27, _⟩ => ⟨S4096x1, .f32⟩
  | .hbm, ⟨28, _⟩ => ⟨S_, .f32⟩
  | .hbm, ⟨29, _⟩ => ⟨S4096x3, .f32⟩
  | .hbm, ⟨30, _⟩ => ⟨S4096x8, .f32⟩
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩

abbrev nD : Nat := 1
abbrev τ : Topo := Topo.v7x

variable {F : FTy → Type} [FloatOps F]
-- ==== Proof.Ideal.While.lean ====
/-
  The data-dependent loops of the suppression kernel.  Each of the kernel's eight blocks of 512 boxes settles its own
  keep column by a loop that runs until nothing changes, or 512 times.  Here the loop is a function of its carried
  values (`run`), and one theorem (`spec_of`) says that a label whose body is such a loop returns that function's value;
  the eight labels of the program are instances of it.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points

@[expose] public section

set_option maxRecDepth 16384

noncomputable section

namespace Cert.KernelIdeal.Sup

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a block's loop carries: the keep column, whether it has settled, the trips run so far. -/
abbrev Carried (F : FTy → Type) : Type := FVec F S512x1 .f32 × BitVec 1 × BitVec 32

/-- The loop goes on: not settled, and fewer than 512 trips run. -/
def goes (s : Carried F) : BitVec 1 := Scalar.andi (Scalar.xori s.2.1 1#1) (Scalar.cmpi .slt s.2.2 512#32)

/-- At most `n` trips of a loop whose trip takes the column `a` to `col a` and the flag to `flag a`. -/
def run (col : FVec F S512x1 .f32 → FVec F S512x1 .f32) (flag : FVec F S512x1 .f32 → BitVec 1) :
    ℕ → Carried F → Carried F
  | 0, s => s
  | n + 1, s => if goes s = 1#1 then run col flag n (col s.1, flag s.1, Scalar.addi s.2.2 1#32) else s

/-- After 512 trips the loop does not go on. -/
theorem goes_last (a : FVec F S512x1 .f32) (d : BitVec 1) : ¬goes (a, d, BitVec.ofNat 32 512) = 1#1 := by
  show ¬Scalar.andi (Scalar.xori d 1#1) (Scalar.cmpi .slt (BitVec.ofNat 32 512) 512#32) = 1#1
  revert d; decide

/-- A label of the program whose body is such a loop — the test, one trip, the label again —, entered after `j` trips
    with `k` to go at variant `k`, meets "return the loop's value". -/
theorem spec_of (c : Dev nD) (E : Set ℕ) (ℓ : (Λ₀ F).Label) (mk : Carried F → (Λ₀ F).Args ℓ) (out : Carried F → (Λ₀ F).Result ℓ)
    (col : FVec F S512x1 .f32 → FVec F S512x1 .f32) (flag : FVec F S512x1 .f32 → BitVec 1)
    (hbody : ∀ s : Carried F, defs₀ (F := F) .tc ℓ (mk s)
      = if goes s = 1#1 then Prog.op (.call ℓ (mk (col s.1, flag s.1, Scalar.addi s.2.2 1#32))) Prog.ret else Prog.ret (out s)) :
    ∀ k j, j + k = 512 → ∀ (a : FVec F S512x1 .f32) (d : BitVec 1) (K : (Λ₀ F).Result ℓ → sProp 𝕄),
      K (out (run col flag k (a, d, BitVec.ofNat 32 j)))
        ⊢ wp frame (wpE (defs₀ (F := F)) Variants.nat (c : Thread nD τ) (some k)) E
            (defs₀ (F := F) .tc ℓ (mk (a, d, BitVec.ofNat 32 j))) K := by
  intro k
  induction k with
  | zero =>
    intro j hj a d K
    obtain rfl : j = 512 := by omega
    rw [hbody, if_neg (goes_last a d), wp_ret, run]
    iintro H; imodintro; iexact H
  | succ k ih =>
    intro j hj a d K
    rw [hbody]
    by_cases hg : goes (a, d, BitVec.ofNat 32 j) = 1#1
    · rw [if_pos hg, show run col flag (k + 1) (a, d, BitVec.ofNat 32 j)
          = run col flag k (col a, flag a, BitVec.ofNat 32 (j + 1)) from by
        rw [run, if_pos hg]; simp only [Scalar.addi, IntOp.addi, BitVec.ofNat_add]]
      rw [show Scalar.addi (a, d, BitVec.ofNat 32 j).2.2 1#32 = BitVec.ofNat 32 (j + 1) from by
        simp only [Scalar.addi, IntOp.addi, BitVec.ofNat_add]]
      refine BI.Entails.trans ?_ (wp_call_spec Variants.nat (c : Thread nD τ) (some (k + 1)) E
        (pure (out (run col flag k (col a, flag a, BitVec.ofNat 32 (j + 1)))) : sWPT 𝕄 ((Λ₀ F).Result ℓ)) k
        (fun u hu => by cases hu; exact Nat.lt_succ_self k) (fun K' => ih (j + 1) (by omega) (col a) (flag a) K'))
      show K _ ⊢ wp frame (wpE (defs₀ (F := F)) Variants.nat (c : Thread nD τ) (some (k + 1))) E (Prog.ret _) K
      rw [wp_ret]; iintro H; imodintro; iexact H
    · rw [if_neg hg, show run col flag (k + 1) (a, d, BitVec.ofNat 32 j) = (a, d, BitVec.ofNat 32 j) from by
        rw [run, if_neg hg], wp_ret]
      iintro H; imodintro; iexact H

end Cert.KernelIdeal.Sup

end
-- ==== Proof.Ideal.Block.lean ====
/-
  One block of the suppression kernel.  From the second block on, the kernel's blocks are the same program at other
  offsets: store the keep column of the block before, strike the boxes it suppresses from the row of boxes still alive,
  read the block's own square of the comparison matrix and its piece of the row, and settle the block's keep column by
  its loop.  That program is written once (`blockProg`), each part of the printed kernel is an instance of it by
  unfolding, and one theorem (`wp_block`) says what it leaves.
-/
module

public import proofs.«01_k».proof.Proof.Ideal.While
public import Idealize.ShloMosaic.Lib.VecWindow

@[expose] public section

set_option maxRecDepth 16384

noncomputable section

namespace Cert.KernelIdeal.Sup

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values of a block -/

/-- One trip of a block's loop on the keep column: two halves, each through the block's square from above and back. -/
def colStep (s : Vec F S512x512 .i8) (e : Vec F S1x512 .f32) (a : FVec F S512x1 .f32) : FVec F S512x1 .f32 :=
  k0_pay63 (k0_pay17 s) e (k0_pay18 s) (k0_pay19 e) a

/-- Whether the trip's second half changed nothing. -/
def flagStep (s : Vec F S512x512 .i8) (e : Vec F S1x512 .f32) (a : FVec F S512x1 .f32) : BitVec 1 :=
  Scalar.cmpf .ogt (k0_pay3 (k0_pay64 (k0_pay17 s) e (k0_pay18 s) (k0_pay19 e) a) (Scalar.ofBits .f32 0x00000000#32) (k0_pay65 (F := F)))
    (Scalar.ofBits .f32 0x00000000#32)

/-- Where a block's loop begins: every box that is still alive kept, not settled, no trip run. -/
def start (e : Vec F S1x512 .f32) : Carried F := (k0_pay19 e, 0#1, 0#32)

/-- What a block's loop ends with, of its square `s` and its piece `e` of the row. -/
def settled (s : Vec F S512x512 .i8) (e : Vec F S1x512 .f32) : Carried F := run (colStep s e) (flagStep s e) 512 (start e)

theorem settled_eq (s : Vec F S512x512 .i8) (e : Vec F S1x512 .f32) :
    settled s e = run (colStep s e) (flagStep s e) 512 (k0_pay19 e, 0#1, BitVec.ofNat 32 0) := by
  unfold settled start; rfl

/-- The block's keep column. -/
def settle (s : Vec F S512x512 .i8) (e : Vec F S1x512 .f32) : FVec F S512x1 .f32 := (settled s e).1

/-- The row of boxes still alive after a block with the keep column `kc` and the comparison rows `rows`: those at or
    after `lane` that a kept box of the block meets are struck. -/
def strike (lane : BitVec 32) (kc : FVec F S512x1 .f32) (rows : Vec F S512x4096 .i8) (kr : Vec F S1x4096 .f32) : FVec F S1x4096 .f32 :=
  have v40 : IVec S512x4096 1 := cmpi .ne rows (broadcast S512x4096 0#8)
  have v42 : IVec S512x1 1 := cmpf .ogt kc (broadcast S512x1 (Scalar.ofBits .f32 0x00000000#32 : F .f32))
  have v43 : IVec S512x4096 1 := broadcastTo S512x4096 v42 broadcasts_S512x1_S512x4096
  have v46 : FVec F S512x4096 .f32 := sitofp .f32 (extui 32 (andi v40 v43) natLt_1_32)
  have v47 : FVec F S4096 .f32 := multiReduction .maximumf [0] S4096 v46 0xFF800000#32 reduces_S512x4096_S4096 (.inl rfl) rfl
  have v48 : FVec F S1x4096 .f32 := shapeCast S1x4096 v47 shapeCasts_S4096_S1x4096
  have v50 : IVec S1x4096 1 := cmpi .sge (iota .tc S1x4096 32 [1] iota_S1x4096_d1_w32) (broadcast S1x4096 lane)
  have v52 : FVec F S1x4096 .f32 := sitofp .f32 (extui 32 v50 natLt_1_32)
  have v56 : FVec F S1x4096 .f32 := subf (broadcast S1x4096 (Scalar.ofBits .f32 0x3F800000#32 : F .f32)) (mulf v48 v52)
  shapeCast S1x4096 (mulf kr v56) shapeCasts_S1x4096_S1x4096

/-! ## The eight loops -/

theorem spec1 (c : Dev nD) (E : Set ℕ) (s : Vec F S512x512 .i8) (e : Vec F S1x512 .f32) (K : (Λ₀ F).Result 1 → sProp 𝕄) :
    K (settled s e) ⊢ wp frame (wpE (defs₀ (F := F)) Variants.nat (c : Thread nD τ) (some (512 : ℕ))) E
      (defs₀ (F := F) .tc 1 ⟨k0_pay17 s, e, k0_pay18 s, k0_pay19 e, k0_pay19 e, 0#1, 0#32⟩) K := by
  rw [settled_eq]
  have h := spec_of c E 1 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec2 (c : Dev nD) (E : Set ℕ) (s : Vec F S512x512 .i8) (e : Vec F S1x512 .f32) (K : (Λ₀ F).Result 2 → sProp 𝕄) :
    K (settled s e) ⊢ wp frame (wpE (defs₀ (F := F)) Variants.nat (c : Thread nD τ) (some (512 : ℕ))) E
      (defs₀ (F := F) .tc 2 ⟨k0_pay17 s, e, k0_pay18 s, k0_pay19 e, k0_pay19 e, 0#1, 0#32⟩) K := by
  rw [settled_eq]
  have h := spec_of c E 2 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec3 (c : Dev nD) (E : Set ℕ) (s : Vec F S512x512 .i8) (e : Vec F S1x512 .f32) (K : (Λ₀ F).Result 3 → sProp 𝕄) :
    K (settled s e) ⊢ wp frame (wpE (defs₀ (F := F)) Variants.nat (c : Thread nD τ) (some (512 : ℕ))) E
      (defs₀ (F := F) .tc 3 ⟨k0_pay17 s, e, k0_pay18 s, k0_pay19 e, k0_pay19 e, 0#1, 0#32⟩) K := by
  rw [settled_eq]
  have h := spec_of c E 3 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec4 (c : Dev nD) (E : Set ℕ) (s : Vec F S512x512 .i8) (e : Vec F S1x512 .f32) (K : (Λ₀ F).Result 4 → sProp 𝕄) :
    K (settled s e) ⊢ wp frame (wpE (defs₀ (F := F)) Variants.nat (c : Thread nD τ) (some (512 : ℕ))) E
      (defs₀ (F := F) .tc 4 ⟨k0_pay17 s, e, k0_pay18 s, k0_pay19 e, k0_pay19 e, 0#1, 0#32⟩) K := by
  rw [settled_eq]
  have h := spec_of c E 4 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec5 (c : Dev nD) (E : Set ℕ) (s : Vec F S512x512 .i8) (e : Vec F S1x512 .f32) (K : (Λ₀ F).Result 5 → sProp 𝕄) :
    K (settled s e) ⊢ wp frame (wpE (defs₀ (F := F)) Variants.nat (c : Thread nD τ) (some (512 : ℕ))) E
      (defs₀ (F := F) .tc 5 ⟨k0_pay17 s, e, k0_pay18 s, k0_pay19 e, k0_pay19 e, 0#1, 0#32⟩) K := by
  rw [settled_eq]
  have h := spec_of c E 5 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec6 (c : Dev nD) (E : Set ℕ) (s : Vec F S512x512 .i8) (e : Vec F S1x512 .f32) (K : (Λ₀ F).Result 6 → sProp 𝕄) :
    K (settled s e) ⊢ wp frame (wpE (defs₀ (F := F)) Variants.nat (c : Thread nD τ) (some (512 : ℕ))) E
      (defs₀ (F := F) .tc 6 ⟨k0_pay17 s, e, k0_pay18 s, k0_pay19 e, k0_pay19 e, 0#1, 0#32⟩) K := by
  rw [settled_eq]
  have h := spec_of c E 6 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec7 (c : Dev nD) (E : Set ℕ) (s : Vec F S512x512 .i8) (e : Vec F S1x512 .f32) (K : (Λ₀ F).Result 7 → sProp 𝕄) :
    K (settled s e) ⊢ wp frame (wpE (defs₀ (F := F)) Variants.nat (c : Thread nD τ) (some (512 : ℕ))) E
      (defs₀ (F := F) .tc 7 ⟨k0_pay17 s, e, k0_pay18 s, k0_pay19 e, k0_pay19 e, 0#1, 0#32⟩) K := by
  rw [settled_eq]
  have h := spec_of c E 7 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

theorem spec8 (c : Dev nD) (E : Set ℕ) (s : Vec F S512x512 .i8) (e : Vec F S1x512 .f32) (K : (Λ₀ F).Result 8 → sProp 𝕄) :
    K (settled s e) ⊢ wp frame (wpE (defs₀ (F := F)) Variants.nat (c : Thread nD τ) (some (512 : ℕ))) E
      (defs₀ (F := F) .tc 8 ⟨k0_pay17 s, e, k0_pay18 s, k0_pay19 e, k0_pay19 e, 0#1, 0#32⟩) K := by
  rw [settled_eq]
  have h := spec_of c E 8 (fun x => ⟨k0_pay17 s, e, k0_pay18 s, k0_pay19 e, x.1, x.2.1, x.2.2⟩) (fun x => x) (colStep s e) (flagStep s e)
    (fun _ => rfl) 512 0 rfl (k0_pay19 e) 0#1 K
  dsimp only at h
  exact h

/-! ## Loads and stores of a whole buffer, by values -/

/-- A load at a unit-stride rectangle of a whole buffer reads a window of its contents. -/
theorem load_unit (b : Ref sig .tc) (f : b.ty.Contents (Elt F)) (off size : Fin b.ty.shape.rank → ℕ) (inb : ∀ a, off a + size a ≤ b.ty.shape.size a) :
    (Memref.whole b : Memref sig .tc _ _ _).view.readAt (Elt F) (Rect.unit off size inb).toLoadRect f = VecWindow.window f off size inb :=
  View.readAt_unit (Memref.whole b : Memref sig .tc _ _ _).view f inb rfl inb

/-- A store there puts the payload over the window. -/
theorem store_unit (b : Ref sig .tc) (f : b.ty.Contents (Elt F)) (off size : Fin b.ty.shape.rank → ℕ) (inb : ∀ a, off a + size a ≤ b.ty.shape.size a)
    (w : (Rect.unit off size inb).shape.Idx → Elt F b.ty.elt) :
    ((Memref.whole b : Memref sig .tc _ _ _).access (Rect.unit off size inb) : View sig .tc _ _ _).write (Elt F) f w Finset.univ = VecWindow.put f off size w :=
  View.read_writes_cons_put (Memref.whole b : Memref sig .tc _ _ _).view f inb w [] rfl

/-! ## The block -/

/-- A block's program: `o` is the block before's first box, `o'` this block's, `lane` this block's as a word. -/
def blockProg (ℓ : (Λ₀ F).Label) (mk : Vec F S512x512 .i8 → Vec F S1x512 .f32 → (Λ₀ F).Args ℓ) (proj : (Λ₀ F).Result ℓ → FVec F S512x1 .f32)
    (o o' : ℕ) (lane : BitVec 32)
    (i4 : ∀ a, ![o, 0] a + S512x1.size a ≤ S4096x1.size a) (i3 : ∀ a, ![o, 0] a + S512x4096.size a ≤ S4096x4096.size a)
    (i33 : ∀ a, ![o', o'] a + S512x512.size a ≤ S4096x4096.size a) (i5 : ∀ a, ![0, o'] a + S1x512.size a ≤ S1x4096.size a)
    (kc : FVec F S512x1 .f32) : Prog (TpuEff nD τ sig (Elt F) (Λ₀ F) .tc) (FVec F S512x1 .f32) :=
  Prog.op (.load (Memref.whole cc0_scratch1) (Rect.unit (s := S4096x1) ![o, 0] S512x1.size i4).toLoadRect (View.loadsAt_vmem h_S512x1)) fun _ =>
  Prog.op (.store (Memref.whole cc0_scratch1) (Rect.unit (s := S4096x1) ![o, 0] S512x1.size i4) (k0_pay20 kc) Finset.univ
    (View.stores_vmem_bits_univ h_S512x1 rfl) (.inl rfl)) fun _ =>
  Prog.op (.load (Memref.whole cc0_scratch0) (Rect.unit (s := S4096x4096) ![o, 0] S512x4096.size i3).toLoadRect (View.loadsAt_vmem h_S512x4096)) fun rows =>
  Prog.op (.load (Memref.whole cc0_scratch2) (Rect.unit (s := S1x4096) ![0, 0] S1x4096.size inb_S1x4096_S1x4096_0_0).toLoadRect (View.loadsAt_vmem h_S1x4096)) fun kr =>
  Prog.op (.load (Memref.whole cc0_scratch2) (Rect.unit (s := S1x4096) ![0, 0] S1x4096.size inb_S1x4096_S1x4096_0_0).toLoadRect (View.loadsAt_vmem h_S1x4096)) fun _ =>
  Prog.op (.store (Memref.whole cc0_scratch2) (Rect.unit (s := S1x4096) ![0, 0] S1x4096.size inb_S1x4096_S1x4096_0_0) (strike lane kc rows kr) Finset.univ
    (View.stores_vmem_bits_univ h_S1x4096 rfl) (.inl rfl)) fun _ =>
  Prog.op (.load (Memref.whole cc0_scratch0) (Rect.unit (s := S4096x4096) ![o', o'] S512x512.size i33).toLoadRect (View.loadsAt_vmem h_S512x512)) fun sq =>
  Prog.op (.load (Memref.whole cc0_scratch2) (Rect.unit (s := S1x4096) ![0, o'] S1x512.size i5).toLoadRect (View.loadsAt_vmem h_S1x512)) fun e =>
  Prog.op (.call ℓ (mk sq e)) fun r => Prog.ret (proj r)

/-- The three work buffers at their contents: the comparison matrix, the keep column, the row of boxes still alive. -/
def work (c : Dev nD) (f3 : Vec F S4096x4096 .i8) (f4 : Vec F S4096x1 .f32) (f5 : Vec F S1x4096 .f32) : sProp 𝕄 :=
  iprop((((c : Thread nD τ).loc cc0_scratch0) ↦{fullShare} f3) ∗ (((c : Thread nD τ).loc cc0_scratch1) ↦{fullShare} f4)
    ∗ (((c : Thread nD τ).loc cc0_scratch2) ↦{fullShare} f5))

set_option maxHeartbeats 1000000 in
/-- What a block leaves: the matrix as it was, the column with the block before's keep column put in, the row struck,
    and it returns the block's own keep column. -/
theorem wp_block (c : Dev nD) (E : Set ℕ) (ℓ : (Λ₀ F).Label) (mk : Vec F S512x512 .i8 → Vec F S1x512 .f32 → (Λ₀ F).Args ℓ)
    (proj : (Λ₀ F).Result ℓ → FVec F S512x1 .f32) (out : Carried F → (Λ₀ F).Result ℓ) (hp : ∀ s, proj (out s) = s.1)
    (hs : ∀ s e (K : (Λ₀ F).Result ℓ → sProp 𝕄), K (out (settled s e))
      ⊢ wp frame (wpE (defs₀ (F := F)) Variants.nat (c : Thread nD τ) (some (512 : ℕ))) E (defs₀ (F := F) .tc ℓ (mk s e)) K)
    (o o' : ℕ) (lane : BitVec 32)
    (i4 : ∀ a, ![o, 0] a + S512x1.size a ≤ S4096x1.size a) (i3 : ∀ a, ![o, 0] a + S512x4096.size a ≤ S4096x4096.size a)
    (i33 : ∀ a, ![o', o'] a + S512x512.size a ≤ S4096x4096.size a) (i5 : ∀ a, ![0, o'] a + S1x512.size a ≤ S1x4096.size a)
    (kc : FVec F S512x1 .f32) (f3 : Vec F S4096x4096 .i8) (f4 : Vec F S4096x1 .f32) (f5 : Vec F S1x4096 .f32)
    (K : FVec F S512x1 .f32 → sProp 𝕄) :
    iprop(work c f3 f4 f5 ∗ (work c f3 (VecWindow.put f4 ![o, 0] S512x1.size (k0_pay20 kc))
          (strike lane kc (VecWindow.window f3 ![o, 0] S512x4096.size i3) f5)
        -∗ K (settle (VecWindow.window f3 ![o', o'] S512x512.size i33)
          (VecWindow.window (strike lane kc (VecWindow.window f3 ![o, 0] S512x4096.size i3) f5) ![0, o'] S1x512.size i5))))
      ⊢ wp frame (wpE (defs₀ (F := F)) Variants.nat (c : Thread nD τ) none) E (blockProg ℓ mk proj o o' lane i4 i3 i33 i5 kc) K := by
  have store_row : ((Memref.whole cc0_scratch2 : Memref sig .tc _ _ _).access (Rect.unit (s := S1x4096) ![0, 0] S1x4096.size inb_S1x4096_S1x4096_0_0) : View sig .tc _ _ _).write (Elt F) f5
      (strike lane kc ((Memref.whole cc0_scratch0 : Memref sig .tc _ _ _).view.readAt (Elt F) (Rect.unit (s := S4096x4096) ![o, 0] S512x4096.size i3).toLoadRect f3)
        ((Memref.whole cc0_scratch2 : Memref sig .tc _ _ _).view.readAt (Elt F) (Rect.unit (s := S1x4096) ![0, 0] S1x4096.size inb_S1x4096_S1x4096_0_0).toLoadRect f5)) Finset.univ
      = strike lane kc (VecWindow.window f3 ![o, 0] S512x4096.size i3) f5 :=
    (Memref.write_access_unit_zero_univ (Elt F) cc0_scratch2 (off := ![0, 0]) (by funext a; fin_cases a <;> rfl) inb_S1x4096_S1x4096_0_0 f5 _).trans
      (congrArg (strike lane kc (VecWindow.window f3 ![o, 0] S512x4096.size i3))
        (Memref.readAt_unit_zero (Elt F) cc0_scratch2 (off := ![0, 0]) (by funext a; fin_cases a <;> rfl) inb_S1x4096_S1x4096_0_0 f5))
  have hret : ∀ s e, K (settle s e) ⊢ (pure (out (settled s e)) : sWPT 𝕄 ((Λ₀ F).Result ℓ))
      (fun x => wp frame (wpE (defs₀ (F := F)) Variants.nat (c : Thread nD τ) none) E (Prog.ret (proj x)) K) := fun s e => by
    show K _ ⊢ wp frame (wpE (defs₀ (F := F)) Variants.nat (c : Thread nD τ) none) E (Prog.ret (proj (out (settled s e)))) K
    rw [wp_ret, hp]
    unfold settle
    iintro H; imodintro; iexact H
  unfold work blockProg
  iintro ⟨⟨H3, H4, H5⟩, Hk⟩
  iapply (wp_load Variants.nat (c : Thread nD τ) none E (m := Memref.whole cc0_scratch1) (Finset.subset_univ _)) $$ H4; iintro H4
  iapply (wp_store Variants.nat (c : Thread nD τ) none E (m := Memref.whole cc0_scratch1) (r := Rect.unit (s := S4096x1) ![o, 0] S512x1.size i4) (Mk := Finset.univ) (Finset.subset_univ _)) $$ H4; iintro H4
  iapply (wp_load Variants.nat (c : Thread nD τ) none E (m := Memref.whole cc0_scratch0) (Finset.subset_univ _)) $$ H3; iintro H3
  iapply (wp_load Variants.nat (c : Thread nD τ) none E (m := Memref.whole cc0_scratch2) (Finset.subset_univ _)) $$ H5; iintro H5
  iapply (wp_load Variants.nat (c : Thread nD τ) none E (m := Memref.whole cc0_scratch2) (Finset.subset_univ _)) $$ H5; iintro H5
  iapply (wp_store Variants.nat (c : Thread nD τ) none E (m := Memref.whole cc0_scratch2) (r := Rect.unit (s := S1x4096) ![0, 0] S1x4096.size inb_S1x4096_S1x4096_0_0) (Mk := Finset.univ) (Finset.subset_univ _)) $$ H5; iintro H5
  iapply (wp_load Variants.nat (c : Thread nD τ) none E (m := Memref.whole cc0_scratch0) (Finset.subset_univ _)) $$ H3; iintro H3
  iapply (wp_load Variants.nat (c : Thread nD τ) none E (m := Memref.whole cc0_scratch2) (Finset.subset_univ _)) $$ H5; iintro H5
  rw [store_row]
  iapply (show iprop(K (settle (VecWindow.window f3 ![o', o'] S512x512.size i33)
      (VecWindow.window (strike lane kc (VecWindow.window f3 ![o, 0] S512x4096.size i3) f5) ![0, o'] S1x512.size i5))) ⊢ _ from BI.Entails.trans (hret (VecWindow.window f3 ![o', o'] S512x512.size i33)
          (VecWindow.window (strike lane kc (VecWindow.window f3 ![o, 0] S512x4096.size i3) f5) ![0, o'] S1x512.size i5))
    (wp_call_spec Variants.nat (c : Thread nD τ) none E
    (pure (out (settled (VecWindow.window f3 ![o', o'] S512x512.size i33)
          (VecWindow.window (strike lane kc (VecWindow.window f3 ![o, 0] S512x4096.size i3) f5) ![0, o'] S1x512.size i5))) : sWPT 𝕄 ((Λ₀ F).Result ℓ)) (512 : ℕ)
    (fun u hu => nomatch hu) (fun K' => hs _ _ K')))
  iapply Hk
  isplitl [H3]; · iexact H3
  isplitl [H4]
  · rw [← store_unit cc0_scratch1 f4 ![o, 0] S512x1.size i4]; iexact H4
  iexact H5

end Cert.KernelIdeal.Sup

end
-- ==== Proof.Ideal.Tiled.lean ====
/-
  The kernel's pure value: the comparison matrix built from eight bands of rows, the chain of eight blocks with the keep
  column and the row of boxes still alive, and the result.  A buffer filled band after band (`stack`) is, once all eight
  are in, a function of the bands alone (`tiled`).
-/
module

public import proofs.«01_k».proof.Proof.Ideal.Block

@[expose] public section

set_option maxRecDepth 16384

noncomputable section

namespace Cert.KernelIdeal.Sup

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Bands of 512 rows -/

/-- A buffer of 4096 rows after the bands `0 … k-1` of 512 rows have been put into it. -/
def stack {α : Type} {n : ℕ} (f : (⟨2, ![4096, n]⟩ : Shape).Idx → α) (w : ℕ → (⟨2, ![512, n]⟩ : Shape).Idx → α) : ℕ → (⟨2, ![4096, n]⟩ : Shape).Idx → α
  | 0 => f
  | k + 1 => VecWindow.put (stack f w k) ![512 * k, 0] ![512, n] (w k)

/-- A row's place within its band. -/
def inBand {n : ℕ} (y : (⟨2, ![4096, n]⟩ : Shape).Idx) : (⟨2, ![512, n]⟩ : Shape).Idx := fun a =>
  match a with
  | ⟨0, _⟩ => ⟨(y 0).val % 512, Nat.mod_lt _ (by decide)⟩
  | ⟨1, _⟩ => ⟨(y 1).val, (y 1).isLt⟩

/-- The buffer all eight bands are in. -/
def tiled {α : Type} {n : ℕ} (w : ℕ → (⟨2, ![512, n]⟩ : Shape).Idx → α) : (⟨2, ![4096, n]⟩ : Shape).Idx → α :=
  fun y => w ((y 0).val / 512) (inBand y)

theorem stack_apply {α : Type} {n : ℕ} (f : (⟨2, ![4096, n]⟩ : Shape).Idx → α) (w : ℕ → (⟨2, ![512, n]⟩ : Shape).Idx → α) (k : ℕ)
    (y : (⟨2, ![4096, n]⟩ : Shape).Idx) (hy : (y 0).val < 512 * k) : stack f w k y = tiled w y := by
  induction k with
  | zero => omega
  | succ k ih =>
    rw [stack]
    unfold VecWindow.put
    have h1 : (y 1).val < n := (y 1).isLt
    by_cases hk : 512 * k ≤ (y 0).val
    · have hall : ∀ a : Fin 2, (![512 * k, 0] : Fin 2 → ℕ) a ≤ (y a).val ∧ (y a).val < (![512 * k, 0] : Fin 2 → ℕ) a + (![512, n] : Fin 2 → ℕ) a := by
        intro a
        match a with
        | ⟨0, _⟩ => exact ⟨hk, by show (y 0).val < 512 * k + 512; omega⟩
        | ⟨1, _⟩ => exact ⟨Nat.zero_le _, by show (y 1).val < 0 + n; omega⟩
      rw [dif_pos hall]
      unfold tiled
      rw [show (y 0).val / 512 = k by omega]
      congr 1
      funext a
      match a with
      | ⟨0, _⟩ => exact Fin.ext (by show (y 0).val - 512 * k = (y 0).val % 512; omega)
      | ⟨1, _⟩ => exact Fin.ext (by show (y 1).val - 0 = (y 1).val; omega)
    · rw [dif_neg (fun hall => hk (hall 0).1)]
      exact ih (by omega)

theorem stack_eq {α : Type} {n : ℕ} (f : (⟨2, ![4096, n]⟩ : Shape).Idx → α) (w : ℕ → (⟨2, ![512, n]⟩ : Shape).Idx → α) :
    stack f w 8 = tiled w :=
  funext fun y => stack_apply f w 8 y (by have : (y 0).val < 4096 := (y 0).isLt; omega)

/-! ## The comparison matrix -/

theorem inb_col (k : ℕ) (h : k < 8) (j : ℕ) (hj : j < 8) : ∀ a, (![512 * k, j] : Fin 2 → ℕ) a + S512x1.size a ≤ S4096x8.size a
  | ⟨0, _⟩ => by show 512 * k + 512 ≤ 4096; omega
  | ⟨1, _⟩ => by show j + 1 ≤ 8; omega

theorem inb_sq (k : ℕ) (h : k < 8) : ∀ a, (![512 * k, 512 * k] : Fin 2 → ℕ) a + S512x512.size a ≤ S4096x4096.size a
  | ⟨0, _⟩ => by show 512 * k + 512 ≤ 4096; omega
  | ⟨1, _⟩ => by show 512 * k + 512 ≤ 4096; omega

theorem inb_rows (k : ℕ) (h : k < 8) : ∀ a, (![512 * k, 0] : Fin 2 → ℕ) a + S512x4096.size a ≤ S4096x4096.size a
  | ⟨0, _⟩ => by show 512 * k + 512 ≤ 4096; omega
  | ⟨1, _⟩ => by show 0 + 4096 ≤ 4096; omega

theorem inb_piece (k : ℕ) (h : k < 8) : ∀ a, (![0, 512 * k] : Fin 2 → ℕ) a + S1x512.size a ≤ S1x4096.size a
  | ⟨0, _⟩ => by show 0 + 1 ≤ 1; omega
  | ⟨1, _⟩ => by show 512 * k + 512 ≤ 4096; omega

/-- Band `k` of the comparison matrix: boxes `512k … 512k+511` of `x0` (boxes by rows) against all boxes of `x1` (by columns). -/
def simRows (x0 : Vec F S4096x8 .f32) (x1 : Vec F S8x4096 .f32) (k : ℕ) : IVec S512x4096 8 :=
  if h : k < 8 then
    k0_pay11 (VecWindow.window x1 ![0, 0] S1x4096.size inb_S8x4096_S1x4096_0_0) (VecWindow.window x1 ![1, 0] S1x4096.size inb_S8x4096_S1x4096_1_0)
      (VecWindow.window x1 ![2, 0] S1x4096.size inb_S8x4096_S1x4096_2_0) (VecWindow.window x1 ![3, 0] S1x4096.size inb_S8x4096_S1x4096_3_0)
      (VecWindow.window x0 ![512 * k, 0] S512x1.size (inb_col k h 0 (by decide))) (VecWindow.window x0 ![512 * k, 1] S512x1.size (inb_col k h 1 (by decide)))
      (VecWindow.window x0 ![512 * k, 2] S512x1.size (inb_col k h 2 (by decide))) (VecWindow.window x0 ![512 * k, 3] S512x1.size (inb_col k h 3 (by decide)))
  else fun _ => 0#8

/-- The comparison matrix. -/
def simAll (x0 : Vec F S4096x8 .f32) (x1 : Vec F S8x4096 .f32) : Vec F S4096x4096 .i8 := tiled (simRows x0 x1)

/-! ## The chain of blocks -/

/-- Block `k`'s square of the matrix, -/
def sqAt (M : Vec F S4096x4096 .i8) (k : ℕ) : Vec F S512x512 .i8 :=
  if h : k < 8 then VecWindow.window M ![512 * k, 512 * k] S512x512.size (inb_sq k h) else fun _ => (0#8 : BitVec 8)
/-- its rows, -/
def rowsAt (M : Vec F S4096x4096 .i8) (k : ℕ) : Vec F S512x4096 .i8 :=
  if h : k < 8 then VecWindow.window M ![512 * k, 0] S512x4096.size (inb_rows k h) else fun _ => (0#8 : BitVec 8)
/-- and its piece of a row of all boxes. -/
def pieceAt (r : Vec F S1x4096 .f32) (k : ℕ) : Vec F S1x512 .f32 :=
  if h : k < 8 then VecWindow.window r ![0, 512 * k] S1x512.size (inb_piece k h) else fun _ => (Scalar.ofBits .f32 0x00000000#32 : F .f32)

/-- Block `k`'s keep column, and the row of boxes alive when it begins. -/
def blk (M : Vec F S4096x4096 .i8) : ℕ → FVec F S512x1 .f32 × FVec F S1x4096 .f32
  | 0 => (settle (sqAt M 0) (pieceAt (k0_pay12 (F := F)) 0), k0_pay12 (F := F))
  | k + 1 =>
    (settle (sqAt M (k + 1)) (pieceAt (strike (BitVec.ofNat 32 (512 * (k + 1))) (blk M k).1 (rowsAt M k) (blk M k).2) (k + 1)),
      strike (BitVec.ofNat 32 (512 * (k + 1))) (blk M k).1 (rowsAt M k) (blk M k).2)

/-- The keep column of all boxes. -/
def keepAll (M : Vec F S4096x4096 .i8) : Vec F S4096x1 .f32 := tiled (fun k => (blk M k).1)

/-- What the kernel leaves: each row times its keep value. -/
def result (x0 : Vec F S4096x8 .f32) (x1 : Vec F S8x4096 .f32) : Vec F S4096x8 .f32 := k0_pay2 x0 (keepAll (simAll x0 x1))

end Cert.KernelIdeal.Sup

end
-- ==== Proof.Ideal.Part1.lean ====
/-
  The first part of the suppression kernel: the counted loop that fills the comparison matrix band by band, the row of
  boxes set to "alive", and the first block's loop.
-/
module

public import proofs.«01_k».proof.Proof.Ideal.Tiled

@[expose] public section

set_option maxRecDepth 16384

noncomputable section

namespace Cert.KernelIdeal.Sup

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem trips_eq : k0_t1_loop.trips = 8 := by decide

/-- A whole-buffer memref's points-to at some contents. -/
def holds {s : Shape} {e : EltTy} (c : Dev nD) (a : Memref sig .tc .vmem s e) (f : a.view.ty.Contents (Elt F)) : sProp 𝕄 :=
  iprop(a.view.loc (c : Thread nD τ) ↦[a.view.set]{fullShare} f)

section

variable (c : Dev nD) (E : Set ℕ) (arg0 : Memref sig .tc .vmem S4096x8 .f32) (harg0 : arg0.IsWhole) (arg1 : Memref sig .tc .vmem S8x4096 .f32) (harg1 : arg1.IsWhole)
  (arg2 : Memref sig .tc .vmem S4096x8 .f32) (harg2 : arg2.IsWhole) (f0 : arg0.view.ty.Contents (Elt F)) (f1 : arg1.view.ty.Contents (Elt F))

/-- A band, as the program spells its loads and offsets. -/
theorem simRows_eq (k : Fin k0_t1_loop.trips) (x1 : Vec F S8x4096 .f32) :
    k0_pay11 (VecWindow.window x1 ![0, 0] S1x4096.size inb_S8x4096_S1x4096_0_0) (VecWindow.window x1 ![1, 0] S1x4096.size inb_S8x4096_S1x4096_1_0)
      (VecWindow.window x1 ![2, 0] S1x4096.size inb_S8x4096_S1x4096_2_0) (VecWindow.window x1 ![3, 0] S1x4096.size inb_S8x4096_S1x4096_3_0)
      (arg0.view.readAt (Elt F) (Rect.unit (s := S4096x8) (k0_off1 k) S512x1.size (k0_off1_inb k)).toLoadRect f0)
      (arg0.view.readAt (Elt F) (Rect.unit (s := S4096x8) (k0_off2 k) S512x1.size (k0_off2_inb k)).toLoadRect f0)
      (arg0.view.readAt (Elt F) (Rect.unit (s := S4096x8) (k0_off3 k) S512x1.size (k0_off3_inb k)).toLoadRect f0)
      (arg0.view.readAt (Elt F) (Rect.unit (s := S4096x8) (k0_off4 k) S512x1.size (k0_off4_inb k)).toLoadRect f0)
    = simRows (arg0.view.read (Elt F) f0) x1 k.val := by
  have hk : k.val < 8 := Nat.lt_of_lt_of_le k.isLt k0_t1_abs.2.1
  rw [simRows, dif_pos hk,
    View.readAt_unit arg0.view f0 (k0_off1_inb k) (k0_off1_eq k) (inb_col k.val hk 0 (by decide)),
    View.readAt_unit arg0.view f0 (k0_off2_inb k) (k0_off2_eq k) (inb_col k.val hk 1 (by decide)),
    View.readAt_unit arg0.view f0 (k0_off3_inb k) (k0_off3_eq k) (inb_col k.val hk 2 (by decide)),
    View.readAt_unit arg0.view f0 (k0_off4_inb k) (k0_off4_eq k) (inb_col k.val hk 3 (by decide))]

/-- A store at offsets equal to `off'` puts the payload there. -/
theorem store_unit_of (b : Ref sig .tc) (f : b.ty.Contents (Elt F)) (off off' size : Fin b.ty.shape.rank → ℕ) (inb : ∀ a, off a + size a ≤ b.ty.shape.size a)
    (w : (Rect.unit off size inb).shape.Idx → Elt F b.ty.elt) (h : off = off') :
    ((Memref.whole b : Memref sig .tc _ _ _).access (Rect.unit off size inb) : View sig .tc _ _ _).write (Elt F) f w Finset.univ = VecWindow.put f off' size w := by
  subst h; exact store_unit b f off size inb w

/-- A store over the whole row leaves its payload. -/
theorem store_row (f w : Vec F S1x4096 .f32) :
    ((Memref.whole cc0_scratch2 : Memref sig .tc _ _ _).access (Rect.unit (s := S1x4096) ![0, 0] S1x4096.size inb_S1x4096_S1x4096_0_0) : View sig .tc _ _ _).write (Elt F) f w Finset.univ = w :=
  Memref.write_access_unit_zero_univ (Elt F) cc0_scratch2 (off := ![0, 0]) (by funext a; fin_cases a <;> rfl) inb_S1x4096_S1x4096_0_0 f w

/-- A band's store puts it after the bands before. -/
theorem store_band (k : Fin k0_t1_loop.trips) (S : Vec F S4096x4096 .i8) (rows : ℕ → IVec S512x4096 8) (w : IVec S512x4096 8) (hw : w = rows k.val) :
    ((Memref.whole cc0_scratch0 : Memref sig .tc _ _ _).access (Rect.unit (s := S4096x4096) (k0_off5 k) S512x4096.size (k0_off5_inb k)) : View sig .tc _ _ _).write (Elt F)
      (stack S rows k.val) w Finset.univ = stack S rows (k.val + 1) := by
  rw [hw, stack]
  exact store_unit_of cc0_scratch0 (stack S rows k.val) (k0_off5 k) ![512 * k.val, 0] S512x4096.size (k0_off5_inb k) (rows k.val) (k0_off5_eq k)

set_option maxHeartbeats 1000000 in
/-- The first part: it leaves the matrix filled and the row at "alive", and returns the constants and the first block's
    keep column. -/
theorem wp_part1 (f3 : Vec F S4096x4096 .i8) (f4 : Vec F S4096x1 .f32) (f5 : Vec F S1x4096 .f32)
    (K : (Σ' (v20 : FVec F S512x512 .f32) (v21 : IVec S512x512 1) (v22 : IVec S512x512 1) (v23 : IVec S1x4096 32), FVec F S512x1 .f32) → sProp 𝕄) :
    iprop(holds c arg0 f0 ∗ holds c arg1 f1 ∗ work c f3 f4 f5
        ∗ (holds c arg0 f0 ∗ holds c arg1 f1 ∗ work c (simAll (arg0.view.read (Elt F) f0) (arg1.view.read (Elt F) f1)) f4 (k0_pay12 (F := F))
          -∗ K ⟨k0_pay13 (F := F), k0_pay14, k0_pay15, iota .tc S1x4096 32 [1] iota_S1x4096_d1_w32,
              (blk (simAll (arg0.view.read (Elt F) f0) (arg1.view.read (Elt F) f1)) 0).1⟩))
      ⊢ wp frame (wpE (defs₀ (F := F)) Variants.nat (c : Thread nD τ) none) E
          (k0_part1 arg0 harg0 arg1 harg1 arg2 harg2 (Memref.whole cc0_scratch0) (Memref.isWhole_whole _) (Memref.whole cc0_scratch1) (Memref.isWhole_whole _)
            (Memref.whole cc0_scratch2) (Memref.isWhole_whole _)) K := by
  have hret : ∀ s e, K ⟨k0_pay13 (F := F), k0_pay14, k0_pay15, iota .tc S1x4096 32 [1] iota_S1x4096_d1_w32, settle s e⟩
      ⊢ (pure (settled s e) : sWPT 𝕄 ((Λ₀ F).Result 1)) (fun x => wp frame (wpE (defs₀ (F := F)) Variants.nat (c : Thread nD τ) none) E
        (Prog.ret ⟨k0_pay13 (F := F), k0_pay14, k0_pay15, iota .tc S1x4096 32 [1] iota_S1x4096_d1_w32, x.1⟩) K) := fun s e => by
    show K _ ⊢ wp frame (wpE (defs₀ (F := F)) Variants.nat (c : Thread nD τ) none) E
      (Prog.ret ⟨k0_pay13 (F := F), k0_pay14, k0_pay15, iota .tc S1x4096 32 [1] iota_S1x4096_d1_w32, (settled s e).1⟩) K
    rw [wp_ret]
    unfold settle
    iintro H; imodintro; iexact H
  simp only [k0_part1_eq_skeleton]; unfold k0_part1_skel
  simp only [Prog.lift, Prog.bind_op, Prog.bind_ret, Prog.pure_eq_ret]
  unfold holds work
  iintro ⟨H0, H1, ⟨H3, H4, H5⟩, Hk⟩
  iapply (wp_load Variants.nat (c : Thread nD τ) none E (m := arg1) (View.setOn_subset_set _ _)) $$ H1; iintro H1
  iapply (wp_load Variants.nat (c : Thread nD τ) none E (m := arg1) (View.setOn_subset_set _ _)) $$ H1; iintro H1
  iapply (wp_load Variants.nat (c : Thread nD τ) none E (m := arg1) (View.setOn_subset_set _ _)) $$ H1; iintro H1
  iapply (wp_load Variants.nat (c : Thread nD τ) none E (m := arg1) (View.setOn_subset_set _ _)) $$ H1; iintro H1
  rw [View.readAt_unit arg1.view f1 inb_S8x4096_S1x4096_0_0 rfl inb_S8x4096_S1x4096_0_0,
    View.readAt_unit arg1.view f1 inb_S8x4096_S1x4096_1_0 rfl inb_S8x4096_S1x4096_1_0,
    View.readAt_unit arg1.view f1 inb_S8x4096_S1x4096_2_0 rfl inb_S8x4096_S1x4096_2_0,
    View.readAt_unit arg1.view f1 inb_S8x4096_S1x4096_3_0 rfl inb_S8x4096_S1x4096_3_0]
  ihave HI : iprop((arg0.view.loc (c : Thread nD τ) ↦[arg0.view.set]{fullShare} f0)
      ∗ (((c : Thread nD τ).loc cc0_scratch0) ↦{fullShare} stack f3 (simRows (arg0.view.read (Elt F) f0) (arg1.view.read (Elt F) f1)) 0)) $$ [H0 H3]
  · isplitl [H0]; · iexact H0
    iexact H3
  iapply (Scf.wp_for_bind frame (wpE (defs₀ (F := F)) Variants.nat (c : Thread nD τ) none) E k0_t1_loop.lb k0_t1_loop.ub k0_t1_loop.st k0_t1_ok () _
    (fun k _ => iprop((arg0.view.loc (c : Thread nD τ) ↦[arg0.view.set]{fullShare} f0)
      ∗ (((c : Thread nD τ).loc cc0_scratch0) ↦{fullShare} stack f3 (simRows (arg0.view.read (Elt F) f0) (arg1.view.read (Elt F) f1)) k))) ?_) $$ HI
  rotate_left
  · iintro %_ ⟨H0, H3⟩
    rw [show Scf.trips k0_t1_loop.lb k0_t1_loop.ub k0_t1_loop.st = 8 from trips_eq, stack_eq]
    iapply (wp_load Variants.nat (c : Thread nD τ) none E (m := Memref.whole cc0_scratch2) (Finset.subset_univ _)) $$ H5; iintro H5
    iapply (wp_store Variants.nat (c : Thread nD τ) none E (m := Memref.whole cc0_scratch2) (r := Rect.unit (s := S1x4096) ![0, 0] S1x4096.size inb_S1x4096_S1x4096_0_0) (Mk := Finset.univ) (Finset.subset_univ _)) $$ H5; iintro H5
    rw [store_row f5 (k0_pay12 (F := F))]
    iapply (wp_load Variants.nat (c : Thread nD τ) none E (m := Memref.whole cc0_scratch0) (Finset.subset_univ _)) $$ H3; iintro H3
    iapply (wp_load Variants.nat (c : Thread nD τ) none E (m := Memref.whole cc0_scratch2) (Finset.subset_univ _)) $$ H5; iintro H5
    iapply (show iprop(K ⟨k0_pay13 (F := F), k0_pay14, k0_pay15, iota .tc S1x4096 32 [1] iota_S1x4096_d1_w32,
              (blk (simAll (arg0.view.read (Elt F) f0) (arg1.view.read (Elt F) f1)) 0).1⟩) ⊢ _ from
      BI.Entails.trans (hret _ _) (wp_call_spec Variants.nat (c : Thread nD τ) none E
        (pure (settled (sqAt (simAll (arg0.view.read (Elt F) f0) (arg1.view.read (Elt F) f1)) 0) (pieceAt (k0_pay12 (F := F)) 0)) : sWPT 𝕄 ((Λ₀ F).Result 1)) (512 : ℕ)
        (fun u hu => nomatch hu) (fun K' => spec1 c E _ _ K')))
    iapply Hk
    isplitl [H0]; · iexact H0
    isplitl [H1]; · iexact H1
    isplitl [H3]; · iexact H3
    isplitl [H4]; · iexact H4
    iexact H5
  · intro k acc
    unfold k0_t1_body
    simp only [Prog.lift, Prog.bind_op, Prog.bind_ret, Prog.pure_eq_ret]
    iintro ⟨H0, H3⟩
    iapply (wp_load Variants.nat (c : Thread nD τ) none E (m := arg0) (View.setOn_subset_set _ _)) $$ H0; iintro H0
    iapply (wp_load Variants.nat (c : Thread nD τ) none E (m := arg0) (View.setOn_subset_set _ _)) $$ H0; iintro H0
    iapply (wp_load Variants.nat (c : Thread nD τ) none E (m := arg0) (View.setOn_subset_set _ _)) $$ H0; iintro H0
    iapply (wp_load Variants.nat (c : Thread nD τ) none E (m := arg0) (View.setOn_subset_set _ _)) $$ H0; iintro H0
    iapply (wp_load Variants.nat (c : Thread nD τ) none E (m := Memref.whole cc0_scratch0) (Finset.subset_univ _)) $$ H3; iintro H3
    iapply (wp_store Variants.nat (c : Thread nD τ) none E (m := Memref.whole cc0_scratch0) (r := Rect.unit (s := S4096x4096) (k0_off5 k) S512x4096.size (k0_off5_inb k)) (Mk := Finset.univ) (Finset.subset_univ _)) $$ H3; iintro H3
    rw [store_band k f3 (simRows (arg0.view.read (Elt F) f0) (arg1.view.read (Elt F) f1)) _ (simRows_eq arg0 f0 k _), wp_ret]
    imodintro
    isplitl [H0]; · iexact H0
    iexact H3

end

end Cert.KernelIdeal.Sup

end
-- ==== Proof.Ideal.Body.lean ====
/-
  The suppression kernel's body: its parts two to eight are the block's program at their offsets, by unfolding; composed
  with the first part and the last stores they leave the result (`result`) and everything else as it was.
-/
module

public import proofs.«01_k».proof.Proof.Ideal.Part1
public import Idealize.ShloMosaic.Lib.Pointwise.Reshape

@[expose] public section

set_option maxRecDepth 16384

noncomputable section

namespace Cert.KernelIdeal.Sup

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (arg0 : Memref sig .tc .vmem S4096x8 .f32) (harg0 : arg0.IsWhole) (arg1 : Memref sig .tc .vmem S8x4096 .f32) (harg1 : arg1.IsWhole)
  (arg2 : Memref sig .tc .vmem S4096x8 .f32) (harg2 : arg2.IsWhole)

theorem part2_eq (kc : FVec F S512x1 .f32) :
    k0_part2 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 2 (fun s e => ⟨k0_pay17 s, e, k0_pay18 s, k0_pay19 e, k0_pay19 e, 0#1, 0#32⟩) (fun x => x.1) 0 512 512#32
          inb_S4096x1_S512x1_0_0 inb_S4096x4096_S512x4096_0_0 inb_S4096x4096_S512x512_512_512 inb_S1x4096_S1x512_0_512 kc := rfl

theorem part3_eq (kc : FVec F S512x1 .f32) :
    k0_part3 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 3 (fun s e => ⟨k0_pay17 s, e, k0_pay18 s, k0_pay19 e, k0_pay19 e, 0#1, 0#32⟩) (fun x => x.1) 512 1024 1024#32
          inb_S4096x1_S512x1_512_0 inb_S4096x4096_S512x4096_512_0 inb_S4096x4096_S512x512_1024_1024 inb_S1x4096_S1x512_0_1024 kc := rfl

theorem part4_eq (kc : FVec F S512x1 .f32) :
    k0_part4 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 4 (fun s e => ⟨k0_pay17 s, e, k0_pay18 s, k0_pay19 e, k0_pay19 e, 0#1, 0#32⟩) (fun x => x.1) 1024 1536 1536#32
          inb_S4096x1_S512x1_1024_0 inb_S4096x4096_S512x4096_1024_0 inb_S4096x4096_S512x512_1536_1536 inb_S1x4096_S1x512_0_1536 kc := rfl

theorem part5_eq (kc : FVec F S512x1 .f32) :
    k0_part5 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 5 (fun s e => ⟨k0_pay17 s, e, k0_pay18 s, k0_pay19 e, k0_pay19 e, 0#1, 0#32⟩) (fun x => x.1) 1536 2048 2048#32
          inb_S4096x1_S512x1_1536_0 inb_S4096x4096_S512x4096_1536_0 inb_S4096x4096_S512x512_2048_2048 inb_S1x4096_S1x512_0_2048 kc := rfl

theorem part6_eq (kc : FVec F S512x1 .f32) :
    k0_part6 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 6 (fun s e => ⟨k0_pay17 s, e, k0_pay18 s, k0_pay19 e, k0_pay19 e, 0#1, 0#32⟩) (fun x => x.1) 2048 2560 2560#32
          inb_S4096x1_S512x1_2048_0 inb_S4096x4096_S512x4096_2048_0 inb_S4096x4096_S512x512_2560_2560 inb_S1x4096_S1x512_0_2560 kc := rfl

theorem part7_eq (kc : FVec F S512x1 .f32) :
    k0_part7 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 7 (fun s e => ⟨k0_pay17 s, e, k0_pay18 s, k0_pay19 e, k0_pay19 e, 0#1, 0#32⟩) (fun x => x.1) 2560 3072 3072#32
          inb_S4096x1_S512x1_2560_0 inb_S4096x4096_S512x4096_2560_0 inb_S4096x4096_S512x512_3072_3072 inb_S1x4096_S1x512_0_3072 kc := rfl

theorem part8_eq (kc : FVec F S512x1 .f32) :
    k0_part8 (F := F) arg0 harg0 arg1 harg1 arg2 harg2 (Memref.whole cc0_scratch0) (Memref.isWhole_whole _) (Memref.whole cc0_scratch1) (Memref.isWhole_whole _)
        (Memref.whole cc0_scratch2) (Memref.isWhole_whole _) (k0_pay13 (F := F)) k0_pay14 k0_pay15 (iota .tc S1x4096 32 [1] iota_S1x4096_d1_w32) kc
      = blockProg 8 (fun s e => ⟨k0_pay17 s, e, k0_pay18 s, k0_pay19 e, k0_pay19 e, 0#1, 0#32⟩) (fun x => x.1) 3072 3584 3584#32
          inb_S4096x1_S512x1_3072_0 inb_S4096x4096_S512x4096_3072_0 inb_S4096x4096_S512x512_3584_3584 inb_S1x4096_S1x512_0_3584 kc := rfl

end

/-! ## One block more -/

/-- The block after block `k`, from the matrix, the keep columns of the blocks before `k` and the row at block `k`'s beginning. -/
theorem wp_next (c : Dev nD) (E : Set ℕ) (ℓ : (Λ₀ F).Label) (mk : Vec F S512x512 .i8 → Vec F S1x512 .f32 → (Λ₀ F).Args ℓ)
    (proj : (Λ₀ F).Result ℓ → FVec F S512x1 .f32) (out : Carried F → (Λ₀ F).Result ℓ) (hp : ∀ s, proj (out s) = s.1)
    (hs : ∀ s e (K : (Λ₀ F).Result ℓ → sProp 𝕄), K (out (settled s e))
      ⊢ wp frame (wpE (defs₀ (F := F)) Variants.nat (c : Thread nD τ) (some (512 : ℕ))) E (defs₀ (F := F) .tc ℓ (mk s e)) K)
    (k : ℕ) (hk : k + 1 < 8) (o o' : ℕ) (ho : o = 512 * k) (ho' : o' = 512 * (k + 1)) (lane : BitVec 32) (hl : lane = BitVec.ofNat 32 (512 * (k + 1)))
    (i4 : ∀ a, ![o, 0] a + S512x1.size a ≤ S4096x1.size a) (i3 : ∀ a, ![o, 0] a + S512x4096.size a ≤ S4096x4096.size a)
    (i33 : ∀ a, ![o', o'] a + S512x512.size a ≤ S4096x4096.size a) (i5 : ∀ a, ![0, o'] a + S1x512.size a ≤ S1x4096.size a)
    (M : Vec F S4096x4096 .i8) (f4 : Vec F S4096x1 .f32) (K : FVec F S512x1 .f32 → sProp 𝕄) :
    iprop(work c M (stack f4 (fun i => (blk M i).1) k) (blk M k).2
        ∗ (work c M (stack f4 (fun i => (blk M i).1) (k + 1)) (blk M (k + 1)).2 -∗ K (blk M (k + 1)).1))
      ⊢ wp frame (wpE (defs₀ (F := F)) Variants.nat (c : Thread nD τ) none) E (blockProg ℓ mk proj o o' lane i4 i3 i33 i5 (blk M k).1) K := by
  subst ho ho' hl
  have h := wp_block c E ℓ mk proj out hp hs (512 * k) (512 * (k + 1)) (BitVec.ofNat 32 (512 * (k + 1))) i4 i3 i33 i5 (blk M k).1 M
    (stack f4 (fun i => (blk M i).1) k) (blk M k).2 K
  have e4 : VecWindow.put (stack f4 (fun i => (blk M i).1) k) ![512 * k, 0] S512x1.size (k0_pay20 (blk M k).1)
      = stack f4 (fun i => (blk M i).1) (k + 1) := by
    rw [show k0_pay20 (blk M k).1 = (blk M k).1 from shapeCast_id _ _, stack]
  have er : rowsAt M k = VecWindow.window M ![512 * k, 0] S512x4096.size i3 := by rw [rowsAt, dif_pos (by omega)]
  have es : sqAt M (k + 1) = VecWindow.window M ![512 * (k + 1), 512 * (k + 1)] S512x512.size i33 := by rw [sqAt, dif_pos hk]
  have ep : ∀ r : Vec F S1x4096 .f32, pieceAt r (k + 1) = VecWindow.window r ![0, 512 * (k + 1)] S1x512.size i5 := fun r => by rw [pieceAt, dif_pos hk]
  rw [e4, ← er, ← es, ← ep] at h
  exact h

section

variable (c : Dev nD) (E : Set ℕ) (arg0 : Memref sig .tc .vmem S4096x8 .f32) (harg0 : arg0.IsWhole) (arg1 : Memref sig .tc .vmem S8x4096 .f32) (harg1 : arg1.IsWhole)
  (arg2 : Memref sig .tc .vmem S4096x8 .f32) (harg2 : arg2.IsWhole) (M : Vec F S4096x4096 .i8) (f4 : Vec F S4096x1 .f32)

theorem wp_part2 (K : FVec F S512x1 .f32 → sProp 𝕄) :
    iprop(work c M (stack f4 (fun i => (blk M i).1) 0) (blk M 0).2
        ∗ (work c M (stack f4 (fun i => (blk M i).1) 1) (blk M 1).2 -∗ K (blk M 1).1))
      ⊢ wp frame (wpE (defs₀ (F := F)) Variants.nat (c : Thread nD τ) none) E
        (k0_part2 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 0).1) K := by
  rw [part2_eq]
  exact wp_next c E 2 _ _ (fun x => x) (fun _ => rfl) (spec2 c E) 0 (by decide) _ _ rfl rfl _ rfl _ _ _ _ M f4 K

theorem wp_part3 (K : FVec F S512x1 .f32 → sProp 𝕄) :
    iprop(work c M (stack f4 (fun i => (blk M i).1) 1) (blk M 1).2
        ∗ (work c M (stack f4 (fun i => (blk M i).1) 2) (blk M 2).2 -∗ K (blk M 2).1))
      ⊢ wp frame (wpE (defs₀ (F := F)) Variants.nat (c : Thread nD τ) none) E
        (k0_part3 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 1).1) K := by
  rw [part3_eq]
  exact wp_next c E 3 _ _ (fun x => x) (fun _ => rfl) (spec3 c E) 1 (by decide) _ _ rfl rfl _ rfl _ _ _ _ M f4 K

theorem wp_part4 (K : FVec F S512x1 .f32 → sProp 𝕄) :
    iprop(work c M (stack f4 (fun i => (blk M i).1) 2) (blk M 2).2
        ∗ (work c M (stack f4 (fun i => (blk M i).1) 3) (blk M 3).2 -∗ K (blk M 3).1))
      ⊢ wp frame (wpE (defs₀ (F := F)) Variants.nat (c : Thread nD τ) none) E
        (k0_part4 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 2).1) K := by
  rw [part4_eq]
  exact wp_next c E 4 _ _ (fun x => x) (fun _ => rfl) (spec4 c E) 2 (by decide) _ _ rfl rfl _ rfl _ _ _ _ M f4 K

theorem wp_part5 (K : FVec F S512x1 .f32 → sProp 𝕄) :
    iprop(work c M (stack f4 (fun i => (blk M i).1) 3) (blk M 3).2
        ∗ (work c M (stack f4 (fun i => (blk M i).1) 4) (blk M 4).2 -∗ K (blk M 4).1))
      ⊢ wp frame (wpE (defs₀ (F := F)) Variants.nat (c : Thread nD τ) none) E
        (k0_part5 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 3).1) K := by
  rw [part5_eq]
  exact wp_next c E 5 _ _ (fun x => x) (fun _ => rfl) (spec5 c E) 3 (by decide) _ _ rfl rfl _ rfl _ _ _ _ M f4 K

theorem wp_part6 (K : FVec F S512x1 .f32 → sProp 𝕄) :
    iprop(work c M (stack f4 (fun i => (blk M i).1) 4) (blk M 4).2
        ∗ (work c M (stack f4 (fun i => (blk M i).1) 5) (blk M 5).2 -∗ K (blk M 5).1))
      ⊢ wp frame (wpE (defs₀ (F := F)) Variants.nat (c : Thread nD τ) none) E
        (k0_part6 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 4).1) K := by
  rw [part6_eq]
  exact wp_next c E 6 _ _ (fun x => x) (fun _ => rfl) (spec6 c E) 4 (by decide) _ _ rfl rfl _ rfl _ _ _ _ M f4 K

theorem wp_part7 (K : FVec F S512x1 .f32 → sProp 𝕄) :
    iprop(work c M (stack f4 (fun i => (blk M i).1) 5) (blk M 5).2
        ∗ (work c M (stack f4 (fun i => (blk M i).1) 6) (blk M 6).2 -∗ K (blk M 6).1))
      ⊢ wp frame (wpE (defs₀ (F := F)) Variants.nat (c : Thread nD τ) none) E
        (k0_part7 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 5).1) K := by
  rw [part7_eq]
  exact wp_next c E 7 _ _ (fun x => x) (fun _ => rfl) (spec7 c E) 5 (by decide) _ _ rfl rfl _ rfl _ _ _ _ M f4 K

theorem wp_part8 (K : FVec F S512x1 .f32 → sProp 𝕄) :
    iprop(work c M (stack f4 (fun i => (blk M i).1) 6) (blk M 6).2
        ∗ (work c M (stack f4 (fun i => (blk M i).1) 7) (blk M 7).2 -∗ K (blk M 7).1))
      ⊢ wp frame (wpE (defs₀ (F := F)) Variants.nat (c : Thread nD τ) none) E
        (k0_part8 (F := F) arg0 harg0 arg1 harg1 arg2 harg2 (Memref.whole cc0_scratch0) (Memref.isWhole_whole _) (Memref.whole cc0_scratch1) (Memref.isWhole_whole _)
          (Memref.whole cc0_scratch2) (Memref.isWhole_whole _) (k0_pay13 (F := F)) k0_pay14 k0_pay15 (iota .tc S1x4096 32 [1] iota_S1x4096_d1_w32) (blk M 6).1) K := by
  rw [part8_eq]
  exact wp_next c E 8 _ _ (fun x => x) (fun _ => rfl) (spec8 c E) 6 (by decide) _ _ rfl rfl _ rfl _ _ _ _ M f4 K

end

/-! ## The whole body -/

/-- A load of the whole column. -/
theorem load_col (f : Vec F S4096x1 .f32) :
    (Memref.whole cc0_scratch1 : Memref sig .tc _ _ _).view.readAt (Elt F) (Rect.unit (s := S4096x1) ![0, 0] S4096x1.size inb_S4096x1_S4096x1_0_0).toLoadRect f = f :=
  Memref.readAt_unit_zero (Elt F) cc0_scratch1 (off := ![0, 0]) (by funext a; fin_cases a <;> rfl) inb_S4096x1_S4096x1_0_0 f

/-- The last block's store completes the column. -/
theorem store_last (M : Vec F S4096x4096 .i8) (f4 : Vec F S4096x1 .f32) :
    ((Memref.whole cc0_scratch1 : Memref sig .tc _ _ _).access (Rect.unit (s := S4096x1) ![3584, 0] S512x1.size inb_S4096x1_S512x1_3584_0) : View sig .tc _ _ _).write (Elt F)
      (stack f4 (fun i => (blk M i).1) 7) (k0_pay1 (blk M 7).1) Finset.univ = keepAll M := by
  rw [show k0_pay1 (blk M 7).1 = (blk M 7).1 from shapeCast_id _ _, keepAll, ← stack_eq f4]
  exact store_unit cc0_scratch1 (stack f4 (fun i => (blk M i).1) 7) ![3584, 0] S512x1.size inb_S4096x1_S512x1_3584_0 (blk M 7).1

set_option maxHeartbeats 1000000 in
/-- The body leaves its two inputs as they were, the result's buffer reading `result` of them, the work buffers at anything. -/
theorem wp_kernel (c : Dev nD) (E : Set ℕ) (arg0 : Memref sig .tc .vmem S4096x8 .f32) (harg0 : arg0.IsWhole) (arg1 : Memref sig .tc .vmem S8x4096 .f32) (harg1 : arg1.IsWhole)
    (arg2 : Memref sig .tc .vmem S4096x8 .f32) (harg2 : arg2.IsWhole) (x0 : Vec F S4096x8 .f32) (x1 : Vec F S8x4096 .f32) (K : PUnit → sProp 𝕄) :
    iprop(owns (c : Thread nD τ) arg0 fullShare x0 ∗ owns (c : Thread nD τ) arg1 fullShare x1 ∗ (∃ d, owns (c : Thread nD τ) arg2 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (iprop(owns (c : Thread nD τ) arg0 fullShare x0 ∗ owns (c : Thread nD τ) arg1 fullShare x1 ∗ owns (c : Thread nD τ) arg2 fullShare (result x0 x1)
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)) -∗ K ⟨⟩))
      ⊢ wp frame (wpE (defs₀ (F := F)) Variants.nat (c : Thread nD τ) none) E
          (cc0__nms_kernel arg0 harg0 arg1 harg1 arg2 harg2 (Memref.whole cc0_scratch0) (Memref.isWhole_whole _) (Memref.whole cc0_scratch1) (Memref.isWhole_whole _)
            (Memref.whole cc0_scratch2) (Memref.isWhole_whole _)) K := by
  simp only [cc0__nms_kernel_eq_skeleton]; unfold cc0__nms_kernel_skel
  unfold owns
  iintro ⟨⟨%f0, %hf0, H0⟩, ⟨%f1, %hf1, H1⟩, ⟨%d2, %f2, -, H2⟩, ⟨%f3, H3⟩, ⟨%f4, H4⟩, ⟨%f5, H5⟩, Hk⟩
  subst hf0 hf1
  rw [wp_bind]
  iapply (wp_part1 c E arg0 harg0 arg1 harg1 arg2 harg2 f0 f1 f3 f4 f5 _)
  unfold holds
  isplitl [H0]; · iexact H0
  isplitl [H1]; · iexact H1
  isplitl [H3 H4 H5]
  · unfold work
    isplitl [H3]; · iexact H3
    isplitl [H4]; · iexact H4
    iexact H5
  iintro ⟨H0, H1, HW⟩
  dsimp only
  rw [wp_bind]
  iapply (wp_part2 c E arg0 harg0 arg1 harg1 arg2 harg2 (simAll (arg0.view.read (Elt F) f0) (arg1.view.read (Elt F) f1)) f4 _)
  isplitl [HW]; · iexact HW
  iintro HW
  rw [wp_bind]
  iapply (wp_part3 c E arg0 harg0 arg1 harg1 arg2 harg2 (simAll (arg0.view.read (Elt F) f0) (arg1.view.read (Elt F) f1)) f4 _)
  isplitl [HW]; · iexact HW
  iintro HW
  rw [wp_bind]
  iapply (wp_part4 c E arg0 harg0 arg1 harg1 arg2 harg2 (simAll (arg0.view.read (Elt F) f0) (arg1.view.read (Elt F) f1)) f4 _)
  isplitl [HW]; · iexact HW
  iintro HW
  rw [wp_bind]
  iapply (wp_part5 c E arg0 harg0 arg1 harg1 arg2 harg2 (simAll (arg0.view.read (Elt F) f0) (arg1.view.read (Elt F) f1)) f4 _)
  isplitl [HW]; · iexact HW
  iintro HW
  rw [wp_bind]
  iapply (wp_part6 c E arg0 harg0 arg1 harg1 arg2 harg2 (simAll (arg0.view.read (Elt F) f0) (arg1.view.read (Elt F) f1)) f4 _)
  isplitl [HW]; · iexact HW
  iintro HW
  rw [wp_bind]
  iapply (wp_part7 c E arg0 harg0 arg1 harg1 arg2 harg2 (simAll (arg0.view.read (Elt F) f0) (arg1.view.read (Elt F) f1)) f4 _)
  isplitl [HW]; · iexact HW
  iintro HW
  rw [wp_bind]
  iapply (wp_part8 c E arg0 harg0 arg1 harg1 arg2 harg2 (simAll (arg0.view.read (Elt F) f0) (arg1.view.read (Elt F) f1)) f4 _)
  isplitl [HW]; · iexact HW
  iintro HW
  simp only [Prog.lift, Prog.bind_op, Prog.bind_ret, Prog.pure_eq_ret]
  unfold work
  icases HW with ⟨H3, H4, H5⟩
  iapply (wp_load Variants.nat (c : Thread nD τ) none E (m := Memref.whole cc0_scratch1) (Finset.subset_univ _)) $$ H4; iintro H4
  iapply (wp_store Variants.nat (c : Thread nD τ) none E (m := Memref.whole cc0_scratch1) (r := Rect.unit (s := S4096x1) ![3584, 0] S512x1.size inb_S4096x1_S512x1_3584_0) (Mk := Finset.univ) (Finset.subset_univ _)) $$ H4; iintro H4
  rw [store_last]
  iapply (wp_load Variants.nat (c : Thread nD τ) none E (m := arg0) (View.setOn_subset_set _ _)) $$ H0; iintro H0
  iapply (wp_load Variants.nat (c : Thread nD τ) none E (m := Memref.whole cc0_scratch1) (Finset.subset_univ _)) $$ H4; iintro H4
  iapply (wp_load Variants.nat (c : Thread nD τ) none E (m := arg2) (View.setOn_subset_set _ _)) $$ H2; iintro H2
  iapply (wp_store Variants.nat (c : Thread nD τ) none E (m := arg2) (r := Rect.unit (s := S4096x8) ![0, 0] S4096x8.size inb_S4096x8_S4096x8_0_0) (Mk := Finset.univ) (View.set_slice_subset _ _)) $$ H2; iintro H2
  rw [wp_ret]
  imodintro
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.readAt_full arg0.view f0 inb_S4096x8_S4096x8_0_0]
    exact (View.read_writes_full arg2.view f2 inb_S4096x8_S4096x8_0_0 _ []).trans (congrArg (k0_pay2 (arg0.view.read (Elt F) f0)) (load_col _))
  isplitl [H3]; · iexists _; iexact H3
  isplitl [H4]; · iexists _; iexact H4
  iexists _; iexact H5

end Cert.KernelIdeal.Sup

end
-- ==== Proof.Ideal.Launch.lean ====
/-
  The run of the suppression program: its host transpose, then one pipeline of one point whose body is `wp_kernel`. The
  argument ends as launched and the result array holds `result` of the argument and its transpose. The launch's set-up
  follows the worked examples' for a hand-written body.
-/
module

public import proofs.«01_k».proof.Proof.Ideal.Body
public import proofs.«01_k».proof.Proof.Gen.KernelIdeal.Launch
public import proofs.«01_k».proof.Proof.Gen.KernelIdeal.Points
public import Idealize.ShloMosaic.Lib.Claim
public import Idealize.ShloMosaic.Lib.Pipeline.Kit
public import Idealize.ShloMosaic.Lib.Pipeline.Frame
public import Idealize.ShloMosaic.Lib.Pipeline.FrameBody
public import Idealize.ShloMosaic.Lib.Pipeline.ValueKit

@[expose] public section

set_option maxRecDepth 16384

noncomputable section

namespace Cert.KernelIdeal.Sup

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the pipeline -/

/-- What each buffer holds when the pipeline begins: the launch contents, the transpose computed. -/
abbrev V (c : Dev nD) (b : Ref sig .tc) : Buf (Elt F) ((c : Thread nD τ).loc b) := StableHlo.after hostOps0 (fun b => m (c, b)) b

/-- The transpose overwrites no buffer it has not computed whole. -/
theorem hostOps0_fresh : (hostOps0 : List (HloOp τ sig (Elt F))).Forall fun op => op.fresh = ∅ := by
  simp only [List.Forall]; repeat' constructor

/-- @main is the transpose, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose leaves the argument alone. -/
theorem V_arg (c : Dev nD) : V m c main_arg0 = m ((c : Thread nD τ).loc main_arg0) := by
  entry_read
  rfl

/-- The second operand is the argument's transpose. -/
theorem V_turned (c : Dev nD) : V m c main_v0 = (transpose S8x4096 [1, 0] (m ((c : Thread nD τ).loc main_arg0)) transposes_S4096x8_S8x4096_1_0 : FVec F S8x4096 .f32) := by
  entry_read
  rfl

/-! ## The proof data -/

/-- Window `w`'s block at the point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the launch is proved from: the inputs are left in place, the output window takes `result`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => result (iblk m c 0 t) (iblk m c 1 t)
  Φ _ := Pipeline.ΦA spec0 c
  q _ := fullShare
  owed _ := 0

/-- The arrays are as the pipeline finds them. -/
theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = result (iblk m c 0 t) (iblk m c 1 t) := by dsimp only [dats]; rfl

/-- The first operand's buffer holds its block when the body runs. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- So does the second's. -/
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body at the point -/

/-- What the body is called with. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body's triple: the scratch buffers come from the carried invariant and go back to it. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  unfold Pipeline.ΦA
  rw [scopedRest0_eq]
  iintro ⟨⟨⟨S0, S1, S2⟩, Hρ⟩, Ho, ⟨%d0, H0⟩, ⟨%d1, H1⟩, ⟨%d2, H2⟩⟩
  iapply (wp_kernel c Set.univ _ _ _ _ _ _ (iblk m c 0 t) (iblk m c 1 t) _)
  isplitl [H0]; · iexact H0
  isplitl [H1]; · iexact H1
  isplitl [H2]; · iexists _; iexact H2
  isplitl [S0]; · iexact S0
  isplitl [S1]; · iexact S1
  isplitl [S2]; · iexact S2
  iintro ⟨H0, H1, H2, S0, S1, S2⟩
  isplitl [Hρ S0 S1 S2]
  · isplitl [S0 S1 S2]
    · isplitl [S0]; · iexact S0
      isplitl [S1]; · iexact S1
      iexact S2
    · iexact Hρ
  isplitl [Ho]; · iexact Ho
  isplitl [H0]; · iexact H0
  isplitl [H1]; · iexact H1
  iexact H2

/-- The body table's row at the point is the body. -/
theorem defs₀_row (t : Fin (cfg0 (F := F)).N) :
    defs₀ (F := F) .tc cfg0.body (cfg0.bodyArgs t (cfg0.slots t)) = bodyAt0 t := by
  unfold defs₀; rw [Defs.onTc_tc]

/-- The launch's obligation for the body. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run -/

set_option backward.isDefEq.respectTransparency.types false in
/-- Every fair execution of @main ends, the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- The first operand's array ends as launched. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_arg m c)))

/-- The frame: every execution ends with the argument unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => kept m h.1 c, h.2⟩) (run_main_quiescent m ρ)

/-- Both operands' only block is the first along each axis. -/
theorem index_arg : ∀ a, win0_0.index t0_0 a = 0 := by decide +kernel
theorem index_turned : ∀ a, win0_1.index t0_0 a = 0 := by decide +kernel

/-- Block 0 starts at 0. -/
theorem front (n k x : ℕ) (h : n = 0) : n * k + x = x := by rw [h, Nat.zero_mul, Nat.zero_add]

/-- The first operand's block is the argument. -/
theorem iblk_arg (c : Dev nD) (t : Fin (cfg0 (F := F)).N) : iblk m c 0 t = m ((c : Thread nD τ).loc main_arg0) := by
  rw [fin_N0 t]; funext j; unfold iblk; blk_simp
  refine (congrFun (V_arg m c) _).trans (congrArg _ ?_)
  blk_ext
  · exact front _ _ _ (index_arg 0)
  · exact front _ _ _ (index_arg 1)

/-- The second operand's block is the argument's transpose. -/
theorem iblk_turned (c : Dev nD) (t : Fin (cfg0 (F := F)).N) : iblk m c 1 t = (transpose S8x4096 [1, 0] (m ((c : Thread nD τ).loc main_arg0)) transposes_S4096x8_S8x4096_1_0 : FVec F S8x4096 .f32) := by
  rw [fin_N0 t]; funext j; unfold iblk; blk_simp
  refine (congrFun (V_turned m c) _).trans (congrArg _ ?_)
  blk_ext
  · exact front _ _ _ (index_turned 0)
  · exact front _ _ _ (index_turned 1)

/-- The result array's contents at the end. -/
theorem out_eq (c : Dev nD) : (dats m 0 c).arrAt 2 (cfgs (F := F) 0).N
    = result (m ((c : Thread nD τ).loc main_arg0)) (transpose S8x4096 [1, 0] (m ((c : Thread nD τ).loc main_arg0)) transposes_S4096x8_S8x4096_1_0 : FVec F S8x4096 .f32) := by
  refine (dats m 0 c).arrAt_eq_of_after_last 2 t0_0 (by decide +kernel : win0_2.WholeAt t0_0) _ fun j => ?_
  blk_simp
  rw [after0_2, iblk_arg, iblk_turned]
  try rfl

/-- The value: the result array ends at `result` of the argument and its transpose, the argument as launched. -/
theorem ends : θ_run defs (onTc (τ := τ) (main (F := F))) ⟨m, fun _ => 0, ρ⟩ (fun r => ∀ c : Dev nD,
      r.2.mem ((c.tc : Thread nD τ).loc main_v1) = result (m ((c : Thread nD τ).loc main_arg0)) (transpose S8x4096 [1, 0] (m ((c : Thread nD τ).loc main_arg0)) transposes_S4096x8_S8x4096_1_0 : FVec F S8x4096 .f32)
      ∧ r.2.mem ((c.tc : Thread nD τ).loc main_arg0) = m ((c.tc : Thread nD τ).loc main_arg0)) :=
  (θ_run defs _ _).mono (fun _ h c => ⟨((h.1 c).1 2).trans (out_eq m c), kept m h.1 c⟩) (run_main_quiescent m ρ)

end Cert.KernelIdeal.Sup

end
-- ==== Proof.Sorting.Ends.lean ====
/-
  The run of the sorting program, with what its result array holds at the end: the contents the last region leaves. The
  launch's set-up is the frame's.
-/
module

public import proofs.«01_k».proof.Proof.Gen.SortIdeal.Frame

@[expose] public section

set_option maxRecDepth 16384

noncomputable section

namespace Cert.SortIdeal.Rank

open Cert.SortIdeal Cert.SortIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with the result array at the last region's contents and the arguments as launched. -/
theorem ends : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v12 (by decide)),
       (h c _ (mem_uc main_arg0 (by decide))).trans (W5_main_arg0 m ρ c),
       (h c _ (mem_uc main_arg1 (by decide))).trans (W5_main_arg1 m ρ c)⟩)

end Cert.SortIdeal.Rank

end
-- ==== Proof.Sorting.Order.lean ====
/-
  Standing in a sorted order: how many entries go before a given one, and where a stable descending sort puts it.
-/
module

public import Idealize.ShloMosaic.Lib.PlanTiles.StableSort
public import Mathlib.Data.EReal.Basic

@[expose] public section

noncomputable section

namespace Cert.Standing

open Idealize.ShloMosaic

/-- Entry `j` goes before entry `i`: it is greater, or equal and earlier. -/
def Ahead {n : ℕ} (s : Fin n → EReal) (j i : Fin n) : Prop := s i < s j ∨ (s j = s i ∧ j < i)

open Classical in
/-- How many entries go before entry `i`. -/
def place {n : ℕ} (s : Fin n → EReal) (i : Fin n) : ℕ := (Finset.univ.filter fun j => Ahead s j i).card

/-- An entry goes not before itself. -/
theorem ahead_irrefl {n : ℕ} (s : Fin n → EReal) (i : Fin n) : ¬ Ahead s i i := by
  rintro (h | ⟨-, h⟩)
  · exact lt_irrefl _ h
  · exact lt_irrefl _ h

/-- Going before is transitive. -/
theorem ahead_trans {n : ℕ} {s : Fin n → EReal} {a b c : Fin n} (h : Ahead s a b) (g : Ahead s b c) : Ahead s a c := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

/-- Of two different entries one goes before the other. -/
theorem ahead_total {n : ℕ} (s : Fin n → EReal) {a b : Fin n} (h : a ≠ b) : Ahead s a b ∨ Ahead s b a := by
  rcases lt_trichotomy (s a) (s b) with g | g | g
  · exact Or.inr (Or.inl g)
  · rcases lt_or_gt_of_ne h with k | k
    · exact Or.inl (Or.inr ⟨g, k⟩)
    · exact Or.inr (Or.inr ⟨g.symm, k⟩)
  · exact Or.inl (Or.inl g)

/-- The entry that goes before has fewer before it. -/
theorem place_lt {n : ℕ} {s : Fin n → EReal} {a b : Fin n} (h : Ahead s a b) : place s a < place s b := by
  classical
  refine Finset.card_lt_card ⟨fun j hj => ?_, fun g => ?_⟩
  · simp only [Finset.mem_filter, Finset.mem_univ, true_and] at hj ⊢
    exact ahead_trans hj h
  · have := g (Finset.mem_filter.mpr ⟨Finset.mem_univ a, h⟩)
    exact ahead_irrefl s a (Finset.mem_filter.mp this).2

/-- No two entries have the same number before them. -/
theorem place_inj {n : ℕ} (s : Fin n → EReal) : Function.Injective (place s) := by
  intro a b h
  by_contra g
  rcases ahead_total s g with k | k
  · exact absurd h (place_lt k).ne
  · exact absurd h (place_lt k).ne'

/-- At position `r` of the stable descending sort stands the entry with `r` entries before it. -/
theorem place_sorted {n : ℕ} (s : Fin n → EReal) (r : Fin n) :
    place s (sortedFrom (fun a b => decide (s b < s a)) r) = r.val := by
  classical
  let G : Fin n → ℕ := fun a => (Finset.univ.filter fun b => s b < s a).card
  have hmono : ∀ a b, s b < s a ↔ G b < G a := by
    have key : ∀ a b, s b < s a → G b < G a := fun a b h => by
      refine Finset.card_lt_card ⟨fun j hj => ?_, fun g => ?_⟩
      · simp only [Finset.mem_filter, Finset.mem_univ, true_and] at hj ⊢
        exact hj.trans h
      · have := g (Finset.mem_filter.mpr ⟨Finset.mem_univ b, h⟩)
        exact lt_irrefl _ (Finset.mem_filter.mp this).2
    intro a b
    refine ⟨key a b, fun h => ?_⟩
    rcases lt_trichotomy (s a) (s b) with g | g | g
    · exact absurd (key b a g) (by omega)
    · have : G a = G b := by simp only [G, g]
      omega
    · exact g
  have hb : (fun a b => decide (s b < s a)) = fun a b => decide (G b < G a) := by
    funext a b
    simp only [hmono a b]
  have hord : ∀ p q : Fin n, p < q → Ahead s (sortedFrom (fun a b => decide (s b < s a)) p) (sortedFrom (fun a b => decide (s b < s a)) q) := by
    have hp := PlanTiles.pairwise_stableSort_lex G (· < ·) (List.finRange n) (List.pairwise_lt_finRange n)
    have hg := List.pairwise_iff_get.mp hp
    intro p q hpq
    rw [hb]
    unfold sortedFrom
    have := hg ((Fin.cast (by simp [(perm_stableSort _ (List.finRange n)).length_eq]) p)) ((Fin.cast (by simp [(perm_stableSort _ (List.finRange n)).length_eq]) q)) hpq
    rcases this with h | ⟨h, h'⟩
    · exact Or.inl ((hmono _ _).mpr h)
    · refine Or.inr ⟨?_, h'⟩
      rcases lt_trichotomy (s (((stableSort (fun x y => decide (G y < G x)) (List.finRange n))).get (Fin.cast (by simp [(perm_stableSort _ (List.finRange n)).length_eq]) p))) (s (((stableSort (fun x y => decide (G y < G x)) (List.finRange n))).get (Fin.cast (by simp [(perm_stableSort _ (List.finRange n)).length_eq]) q))) with g | g | g
      · exact absurd ((hmono _ _).mp g) (by omega)
      · exact g
      · exact absurd ((hmono _ _).mp g) (by omega)
  set σ := sortedFrom (fun a b => decide (s b < s a)) with hσ
  have hsurj : Function.Surjective σ := sortedFrom_surjective _
  have hinj : Function.Injective σ := sortedFrom_injective _
  have : (Finset.univ.filter fun j => Ahead s j (σ r)) = (Finset.univ.filter fun q : Fin n => q < r).image σ := by
    ext j
    simp only [Finset.mem_filter, Finset.mem_univ, true_and, Finset.mem_image]
    obtain ⟨q, rfl⟩ := hsurj j
    refine ⟨fun h => ⟨q, ?_, rfl⟩, ?_⟩
    · rcases lt_trichotomy q r with g | g | g
      · exact g
      · subst g; exact absurd h (ahead_irrefl _ _)
      · exact absurd (ahead_trans h (hord _ _ g)) (ahead_irrefl _ _)
    · rintro ⟨p, hp, e⟩
      rw [← hinj e]
      exact hord _ _ hp
  unfold place
  rw [this, Finset.card_image_of_injective _ hinj]
  have : (Finset.univ.filter fun q : Fin n => q < r) = Finset.Iio r := by ext; simp
  rw [this, Fin.card_Iio]

/-- Entries appended at the end that are no greater than any entry change nothing for the entries that were there. -/
theorem place_padded {n N : ℕ} (hn : n ≤ N) (s : Fin n → EReal) (t : Fin N → EReal) (b : EReal) (hb : ∀ i, b ≤ s i)
    (ht : ∀ i : Fin n, t (Fin.castLE hn i) = s i) (hp : ∀ j : Fin N, n ≤ j.val → t j = b) (i : Fin n) :
    place t (Fin.castLE hn i) = place s i := by
  classical
  unfold place
  refine (Finset.card_bij (fun j _ => Fin.castLE hn j) (fun j hj => ?_) (fun a _ b _ h => ?_) fun j hj => ?_).symm
  · have hj' := (Finset.mem_filter.mp hj).2
    refine Finset.mem_filter.mpr ⟨Finset.mem_univ _, ?_⟩
    simp only [Ahead, ht] at hj' ⊢
    exact hj'
  · exact Fin.castLE_injective hn h
  · simp only [Finset.mem_filter, Finset.mem_univ, true_and] at hj
    by_cases hlt : j.val < n
    · refine ⟨⟨j.val, hlt⟩, ?_, rfl⟩
      refine Finset.mem_filter.mpr ⟨Finset.mem_univ _, ?_⟩
      have hj' : j = Fin.castLE hn ⟨j.val, hlt⟩ := rfl
      rw [hj'] at hj
      simp only [Ahead, ht] at hj
      exact hj
    · exfalso
      have hge : n ≤ j.val := by omega
      rcases hj with h | ⟨-, h⟩
      · rw [ht, hp j hge] at h
        exact absurd (hb i) (not_le.mpr h)
      · have : j.val < i.val := h
        omega

/-- How many go before an entry is less than how many there are. -/
theorem place_bound {n : ℕ} (s : Fin n → EReal) (i : Fin n) : place s i < n := by
  classical
  have : place s i < (Finset.univ : Finset (Fin n)).card := by
    refine Finset.card_lt_card ⟨fun j hj => Finset.mem_univ _, fun g => ?_⟩
    exact ahead_irrefl s i (Finset.mem_filter.mp (g (Finset.mem_univ i))).2
  simpa using this

end Cert.Standing
-- ==== Proof.Value.Greedy.lean ====
/-
  Greedy suppression as mathematics, on natural numbers: which boxes are kept, one block's fixed point, the chain of
  blocks, and the running sweep — all the same set.
-/
module

public import Mathlib.Order.Basic
public import Mathlib.Tactic.Common

@[expose] public section

namespace Cert.Greedy

/-- Box `j` is kept when it passes `E` and no earlier kept box meets it (`S i j`). -/
def Good (E : ℕ → Prop) (S : ℕ → ℕ → Prop) (j : ℕ) : Prop := E j ∧ ∀ i : Fin j, Good E S i.val → ¬S i.val j
termination_by j
decreasing_by exact i.isLt

theorem good_iff (E : ℕ → Prop) (S : ℕ → ℕ → Prop) (j : ℕ) : Good E S j ↔ E j ∧ ∀ i, i < j → Good E S i → ¬S i j := by
  rw [Good]
  exact and_congr_right fun _ => ⟨fun h i hi => h ⟨i, hi⟩, fun h i => h i.val i.isLt⟩

/-- One sweep: `j` passes `E` and no earlier box of `A` meets it. -/
def half (E : ℕ → Prop) (S : ℕ → ℕ → Prop) (A : ℕ → Prop) (j : ℕ) : Prop := E j ∧ ∀ i, i < j → A i → ¬S i j

/-- Each sweep makes one more box right. -/
theorem half_agree {E : ℕ → Prop} {S : ℕ → ℕ → Prop} {A : ℕ → Prop} {k : ℕ} (h : ∀ j, j < k → (A j ↔ Good E S j)) :
    ∀ j, j < k + 1 → (half E S A j ↔ Good E S j) := by
  intro j hj
  rw [good_iff]
  refine and_congr_right fun _ => forall_congr' fun i => forall_congr' fun hi => ?_
  rw [h i (by omega)]

theorem half_congr {E : ℕ → Prop} {S : ℕ → ℕ → Prop} {A B : ℕ → Prop} {n : ℕ} (h : ∀ j, j < n → (A j ↔ B j)) :
    ∀ j, j < n → (half E S A j ↔ half E S B j) := by
  intro j hj
  refine and_congr_right fun _ => forall_congr' fun i => forall_congr' fun hi => ?_
  rw [h i (by omega)]

/-- A set that two sweeps give back is the kept one. -/
theorem fixed {E : ℕ → Prop} {S : ℕ → ℕ → Prop} {B : ℕ → Prop} {n : ℕ} (h : ∀ j, j < n → (half E S (half E S B) j ↔ B j)) :
    ∀ j, j < n → (B j ↔ Good E S j) := by
  have both : ∀ j, j < n → ((B j ↔ Good E S j) ∧ (half E S B j ↔ Good E S j)) := by
    intro j
    induction j using Nat.strongRecOn with
    | _ j ih =>
      intro hj
      constructor
      · rw [← h j hj]
        exact half_agree (k := j) (fun i hi => (ih i hi (by omega)).2) j (by omega)
      · exact half_agree (k := j) (fun i hi => (ih i hi (by omega)).1) j (by omega)
  exact fun j hj => (both j hj).1

/-- The boxes kept of all. -/
def Kept (S : ℕ → ℕ → Prop) : ℕ → Prop := Good (fun _ => True) S

theorem kept_iff (S : ℕ → ℕ → Prop) (j : ℕ) : Kept S j ↔ ∀ i, i < j → Kept S i → ¬S i j := by
  unfold Kept; rw [good_iff]; exact ⟨fun h => h.2, fun h => ⟨trivial, h⟩⟩

/-- No kept box before `lo` meets `j`. -/
def Alive (S : ℕ → ℕ → Prop) (lo j : ℕ) : Prop := ∀ i, i < lo → Kept S i → ¬S i j

/-- Within the block that begins at `lo`, the boxes kept among those still alive are the kept boxes of all. -/
theorem good_block (S : ℕ → ℕ → Prop) (lo : ℕ) : ∀ r, Good (fun r => Alive S lo (lo + r)) (fun i r => S (lo + i) (lo + r)) r ↔ Kept S (lo + r) := by
  intro r
  induction r using Nat.strongRecOn with
  | _ r ih =>
    rw [good_iff, kept_iff]
    constructor
    · rintro ⟨h1, h2⟩ i hi hk
      by_cases hlo : i < lo
      · exact h1 i hlo hk
      · have e : lo + (i - lo) = i := by omega
        have := h2 (i - lo) (by omega)
        rw [ih (i - lo) (by omega), e] at this
        exact this hk
    · intro h
      refine ⟨fun i hi hk => h i (by omega) hk, fun i hi hk => ?_⟩
      exact h (lo + i) (by omega) ((ih i hi).1 hk)

/-- The boxes still alive after a block of `n` more. -/
theorem alive_add (S : ℕ → ℕ → Prop) (lo n j : ℕ) :
    Alive S (lo + n) j ↔ Alive S lo j ∧ ∀ r, r < n → Kept S (lo + r) → ¬S (lo + r) j := by
  constructor
  · intro h
    exact ⟨fun i hi => h i (by omega), fun r hr => h (lo + r) (by omega)⟩
  · rintro ⟨h1, h2⟩ i hi
    by_cases hlo : i < lo
    · exact h1 i hlo
    · have e : lo + (i - lo) = i := by omega
      have := h2 (i - lo) (by omega)
      rwa [e] at this

theorem alive_zero (S : ℕ → ℕ → Prop) (j : ℕ) : Alive S 0 j := fun i hi => absurd hi (Nat.not_lt_zero i)

/-- What the sweep over boxes knows of box `j` when it comes to box `k`. -/
def Swept (S : ℕ → ℕ → Prop) (k j : ℕ) : Prop := ∀ i, i < k → i < j → Kept S i → ¬S i j

theorem swept_zero (S : ℕ → ℕ → Prop) (j : ℕ) : Swept S 0 j := fun i hi => absurd hi (Nat.not_lt_zero i)

/-- The box the sweep has come to is settled. -/
theorem swept_self (S : ℕ → ℕ → Prop) (k : ℕ) : Swept S k k ↔ Kept S k := by
  rw [kept_iff]; exact ⟨fun h i hi => h i hi hi, fun h i hi _ => h i hi⟩

/-- One step of the sweep. -/
theorem swept_succ (S : ℕ → ℕ → Prop) (k j : ℕ) : Swept S (k + 1) j ↔ Swept S k j ∧ ¬(S k j ∧ Swept S k k ∧ k < j) := by
  constructor
  · intro h
    exact ⟨fun i hi => h i (by omega), fun ⟨h1, h2, h3⟩ => h k (by omega) h3 ((swept_self S k).1 h2) h1⟩
  · rintro ⟨h1, h2⟩ i hi hij hk hS
    by_cases e : i = k
    · subst e
      exact h2 ⟨hS, (swept_self S i).2 hk, hij⟩
    · exact h1 i (by omega) hij hk hS

/-- After the last box the sweep has the kept boxes. -/
theorem swept_last (S : ℕ → ℕ → Prop) (n j : ℕ) (h : j < n) : Swept S n j ↔ Kept S j := by
  rw [kept_iff]; exact ⟨fun h' i hi => h' i (by omega) hi, fun h' i _ hi => h' i hi⟩

end Cert.Greedy

end
-- ==== Proof.Value.Bits.lean ====
/-
  Truth values as the extended reals zero and one, and the operations by which the kernel and the reference compute on
  them: product is "and", one minus is "not", the greatest of many is "some".
-/
module

public import proofs.«01_k».proof.Proof.Value.Greedy
public import Idealize.ShloMosaic.Lib.Pointwise
public import Idealize.ShloMosaic.Lib.WordCmp

@[expose] public section

noncomputable section

namespace Cert.Truth

open Idealize.ShloMosaic

/-- One where `p` holds, else zero. -/
def bit (p : Prop) : EReal := open Classical in if p then 1 else 0

theorem bit_true {p : Prop} (h : p) : bit p = 1 := if_pos h
theorem bit_false {p : Prop} (h : ¬p) : bit p = 0 := if_neg h

theorem bit_congr {p q : Prop} (h : p ↔ q) : bit p = bit q := congrArg bit (propext h)

theorem bit_inj {p q : Prop} : bit p = bit q ↔ (p ↔ q) := by
  refine ⟨fun h => ?_, bit_congr⟩
  by_cases hp : p <;> by_cases hq : q <;> simp [bit, hp, hq] at h ⊢

theorem zero_lt_bit (p : Prop) : 0 < bit p ↔ p := by
  by_cases hp : p <;> simp [bit, hp]

theorem bit_mul (p q : Prop) : bit p * bit q = bit (p ∧ q) := by
  by_cases hp : p <;> by_cases hq : q <;> simp [bit, hp, hq]

theorem one_sub_bit (p : Prop) : 1 - bit p = bit (¬p) := by
  have h : (1 : EReal) - 1 = 0 := by
    rw [← EReal.coe_one, ← EReal.coe_sub, sub_self, EReal.coe_zero]
  by_cases hp : p <;> simp [bit, hp, h]

/-- A truth value of the integers, read as a float. -/
theorem sitofp_bit (b : BitVec 1) : FloatOps.sitofp (F := Ideal) .f32 (BitVec.setWidth 32 b) = bit (b = 1#1) := by
  rcases BitVec.eq_zero_or_eq_one b with rfl | rfl
  · show (((BitVec.setWidth 32 0#1).toInt : ℝ) : EReal) = _
    rw [bit_false (by decide)]; simp
  · show (((BitVec.setWidth 32 1#1).toInt : ℝ) : EReal) = _
    rw [bit_true rfl, show (BitVec.setWidth 32 1#1).toInt = 1 by decide]; simp

/-- The greatest of truth values. -/
theorem fold_bit {n : ℕ} [NeZero n] (f : Fin n → Prop) :
    (Finset.univ : Finset (Fin n)).fold max (Ideal.ofBits .f32 0xFF800000#32) (fun i => bit (f i)) = bit (∃ i, f i) := by
  have hb : Ideal.ofBits .f32 0xFF800000#32 = ⊥ := by
    simp [Ideal.ofBits, Ideal.ieee]
  rw [hb]
  apply le_antisymm
  · refine Finset.fold_max_le _ |>.2 ⟨bot_le, fun i _ => ?_⟩
    by_cases h : f i
    · rw [bit_true h, bit_true ⟨i, h⟩]
    · rw [bit_false h]; unfold bit; split <;> simp
  · by_cases h : ∃ i, f i
    · obtain ⟨i, hi⟩ := h
      rw [bit_true ⟨i, hi⟩]
      exact Finset.le_fold_max _ |>.2 (.inr ⟨i, Finset.mem_univ _, by rw [bit_true hi]⟩)
    · rw [bit_false h]
      exact Finset.le_fold_max _ |>.2 (.inr ⟨0, Finset.mem_univ _, by unfold bit; split <;> simp⟩)

theorem andi_one (a b : BitVec 1) : IntOp.andi a b = 1#1 ↔ a = 1#1 ∧ b = 1#1 := by
  revert a b; decide

theorem noti_one (a : BitVec 1) : ~~~a = 1#1 ↔ ¬a = 1#1 := by
  revert a; decide

theorem ofBool_one (b : Bool) : BitVec.ofBool b = 1#1 ↔ b = true := by
  revert b; decide

/-- A decision that says yes, whatever the decision procedure. -/
theorem decide_iff {p : Prop} {i : Decidable p} : @decide p i = true ↔ p := decide_eq_true_iff

theorem ne_one {w : ℕ} (a b : BitVec w) : IntOp.cmpi .ne a b = 1#1 ↔ a ≠ b := by
  show BitVec.ofBool (a != b) = 1#1 ↔ _
  rw [ofBool_one]; simp

theorem eq_one {w : ℕ} (a b : BitVec w) : IntOp.cmpi .eq a b = 1#1 ↔ a = b := by
  show BitVec.ofBool (a == b) = 1#1 ↔ _
  rw [ofBool_one]; simp

theorem slt_one (i j : ℕ) (hi : i < 4097) (hj : j < 4097) :
    IntOp.cmpi .slt (BitVec.ofNat 32 i) (BitVec.ofNat 32 j) = 1#1 ↔ i < j := by
  rw [WordCmp.cmpi_slt_ofNat (by omega) (by omega), ofBool_one]; simp

theorem sgt_one (i j : ℕ) (hi : i < 4097) (hj : j < 4097) :
    IntOp.cmpi .sgt (BitVec.ofNat 32 i) (BitVec.ofNat 32 j) = 1#1 ↔ j < i := by
  rw [WordCmp.cmpi_sgt_ofNat (by omega) (by omega), ofBool_one]; simp

theorem sge_one (i j : ℕ) (hi : i < 4097) (hj : j < 4097) :
    IntOp.cmpi .sge (BitVec.ofNat 32 i) (BitVec.ofNat 32 j) = 1#1 ↔ j ≤ i := by
  rw [WordCmp.cmpi_sge_ofNat (by omega) (by omega), ofBool_one]; simp

theorem ofNat_inj (i j : ℕ) (hi : i < 4097) (hj : j < 4097) : BitVec.ofNat 32 i = BitVec.ofNat 32 j ↔ i = j := by
  rw [← BitVec.toNat_inj, BitVec.toNat_ofNat, BitVec.toNat_ofNat]; omega

end Cert.Truth

end
-- ==== Proof.Sorting.Wanted.lean ====
/-
  What the sorting's reference computes: row `p` is the row of boxes and score at position `p` of the stable descending sort
  of the scores, which is the entry that exactly `p` scores go before.
-/
module

public import proofs.«01_k».proof.Proof.Sorting.Order
public import proofs.«01_k».proof.Proof.Value.Bits
public import proofs.«01_k».proof.Proof.Gen.SortReferenceIdeal
public import Idealize.ShloMosaic.Lib.Pointwise
public import Idealize.ShloMosaic.Lib.SortFacts
public import Idealize.ShloMosaic.Lib.WordCmp
public import Idealize.ShloMosaic.Lib.Routing.Ops

@[expose] public section

set_option maxRecDepth 16384

noncomputable section

namespace Cert.SortReferenceIdeal.Wanted

open Cert.SortReferenceIdeal Cert.SortReferenceIdeal.Gen Cert.Standing Cert.Truth
open Idealize.ShloMosaic Idealize.ShloMosaic.TcCoe Idealize.ShloMosaic.Pointwise

variable (s : FVec Ideal S20000 .f32)

/-- Which entry stands at position `p` of the sorted scores. -/
def order (p : Fin 4096) : Fin 20000 := sortedFrom (fun a b => decide (s (ix1 b) < s (ix1 a))) (Fin.castLE (by decide) p)

/-- Exactly `p` scores go before it. -/
theorem place_order (p : Fin 4096) : place (fun j : Fin 20000 => s (ix1 j)) (order s p) = p.val :=
  place_sorted (fun j : Fin 20000 => s (ix1 j)) _

/-- The greatest scores, and where they stand. -/
abbrev tops : FVec Ideal S4096 .f32 × IVec S4096 32 := Host.topK S4096 0 (FloatOps.cmpfTotal (F := Ideal) .gt) s sliceFits_S20000_S4096

theorem ofFin_ix1 {n : ℕ} (k : Fin n) : Shape.Idx.ofFin k = ix1 k := by
  funext a
  have : a = 0 := Subsingleton.elim _ _
  subst this
  exact Fin.ext rfl

/-- The sort's choice. -/
theorem choice (p : Fin 4096) (h : p.val < 20000) :
    sortedFrom (fun k k' : Fin 20000 => (FloatOps.cmpfTotal (F := Ideal) .gt (s ((ix1 (⟨p.val, h⟩ : Fin 20000)).along 0 k)) (s ((ix1 (⟨p.val, h⟩ : Fin 20000)).along 0 k')) : BitVec 1) == 1#1) ⟨p.val, h⟩ = order s p := by
  unfold order
  refine congrArg (fun f => sortedFrom f (⟨p.val, h⟩ : Fin 20000)) (funext fun k => funext fun k' => ?_)
  have e : ∀ k : Fin 20000, (ix1 (⟨p.val, h⟩ : Fin 20000)).along 0 k = ix1 k := fun k => (Shape.Idx.along_rank1 _ k).trans (ofFin_ix1 k)
  rw [e, e]
  show (BitVec.ofBool (decide (s (ix1 k') < s (ix1 k))) == 1#1) = decide (s (ix1 k') < s (ix1 k))
  cases decide (s (ix1 k') < s (ix1 k)) <;> rfl

theorem tops_values (p : Fin 4096) : (tops s).1 (ix1 p) = s (ix1 (order s p)) := by
  unfold tops Host.topK Host.sort2
  pointwise
  rw [← choice s p (by omega)]
  exact congrArg s ((Shape.Idx.along_rank1 _ _).trans (ofFin_ix1 _))

theorem tops_places (p : Fin 4096) : (tops s).2 (ix1 p) = BitVec.ofNat 32 (order s p).val := by
  unfold tops Host.topK Host.sort2
  pointwise
  rw [← choice s p (by omega), (Shape.Idx.along_rank1 _ _).trans (ofFin_ix1 _)]
  rfl

/-- The positions, wrapped where negative: they are not. -/
abbrev wrapped (t : IVec S4096 32) : IVec S4096x1 32 := broadcastInDim S4096x1 ![0] bcast_S4096_S4096x1_0
  (select (cmpi .slt t (broadcastInDim S4096 ![] bcast_S_S4096 (constantI S_ 32 0#32))) (addi t (broadcastInDim S4096 ![] bcast_S_S4096 (constantI S_ 32 20000#32))) t)

/-- Whether a position lies in the table: it does. -/
abbrev inside (w : IVec S4096x1 32) : IVec S4096 1 := Host.reduce IntOp.andi (andi (cmpi .sge w (broadcastInDim S4096x1 ![] bcast_S_S4096x1 (constantI S_ 32 0#32)))
  (cmpi .sle w (broadcastInDim S4096x1 ![0, 1] bcast_S1x1_S4096x1_0_1 (broadcastInDim S1x1 ![1] bcast_S1_S1x1_1 (constantI S1 32 19999#32))))) (constantI S_ 1 1#1) reducesTo_S4096x1_S4096_d1 h_S_

theorem wrapped_apply (t : IVec S4096 32) (p : Fin 4096) (b : Fin 20000) (h : t (ix1 p) = BitVec.ofNat 32 b.val) :
    wrapped t (ix2 p 0) = BitVec.ofNat 32 b.val := by
  unfold wrapped
  pointwise
  have hb := b.isLt
  have n : IntOp.cmpi .slt (BitVec.ofNat 32 b.val) 0#32 = 0#1 := by
    rw [show (0#32 : BitVec 32) = BitVec.ofNat 32 0 from rfl, WordCmp.cmpi_slt_ofNat (by omega) (by omega)]
    exact congrArg BitVec.ofBool (decide_eq_false (by omega))
  rw [h, n]
  rfl

theorem inside_apply (w : IVec S4096x1 32) (p : Fin 4096) (b : Fin 20000) (h : w (ix2 p 0) = BitVec.ofNat 32 b.val) :
    inside w (ix1 p) = 1#1 := by
  unfold inside
  pointwise
  have hb := b.isLt
  rw [show (Finset.univ : Finset (Fin 1)) = {0} from rfl, Finset.fold_singleton, h, andi_one, andi_one]
  refine ⟨⟨?_, ?_⟩, rfl⟩
  · rw [show (0#32 : BitVec 32) = BitVec.ofNat 32 0 from rfl, WordCmp.cmpi_sge_ofNat (by omega) (by omega)]
    exact congrArg BitVec.ofBool (decide_eq_true (by omega))
  · rw [show (19999#32 : BitVec 32) = BitVec.ofNat 32 19999 from rfl, WordCmp.cmpi_sle_ofNat (by omega) (by omega)]
    exact congrArg BitVec.ofBool (decide_eq_true (by omega))

/-- What the reference returns. -/
abbrev wanted (x : FVec Ideal S20000x4 .f32) : FVec Ideal S4096x8 .f32 :=
  concatenate S4096x8 1 [⟨S4096x4, (select (broadcastInDim S4096x4 ![0] bcast_S4096_S4096x4_0 (inside (wrapped (tops s).2)))
      (Host.gather gather_S20000x4_S4096x1_S4096x4_1_0_n_n_0_1_14 x (wrapped (tops s).2)) (broadcastInDim S4096x4 ![] bcast_S_S4096x4 (constant (F := Ideal) S_ .f32 0x7FC00000#32)) : FVec Ideal S4096x4 .f32)⟩,
    ⟨S4096x1, (broadcastInDim S4096x1 ![0] bcast_S4096_S4096x1_0 (tops s).1 : FVec Ideal S4096x1 .f32)⟩,
    ⟨S4096x3, (broadcastInDim S4096x3 ![] bcast_S_S4096x3 (constant (F := Ideal) S_ .f32 0x00000000#32) : FVec Ideal S4096x3 .f32)⟩] concatenates_S4096x4_S4096x1_S4096x3_S4096x8_d1

/-- The boxes taken. -/
theorem taken (x : FVec Ideal S20000x4 .f32) (p : Fin 4096) (k : Fin 4) :
    (select (broadcastInDim S4096x4 ![0] bcast_S4096_S4096x4_0 (inside (wrapped (tops s).2)))
      (Host.gather gather_S20000x4_S4096x1_S4096x4_1_0_n_n_0_1_14 x (wrapped (tops s).2)) (broadcastInDim S4096x4 ![] bcast_S_S4096x4 (constant (F := Ideal) S_ .f32 0x7FC00000#32)) : FVec Ideal S4096x4 .f32) (ix2 p k)
      = x (ix2 (order s p) k) := by
  have hw := wrapped_apply (tops s).2 p (order s p) (tops_places s p)
  have hi := inside_apply (wrapped (tops s).2) p (order s p) hw
  have hg : Host.gather gather_S20000x4_S4096x1_S4096x4_1_0_n_n_0_1_14 x (wrapped (tops s).2) (ix2 p k) = x (ix2 (order s p) k) :=
    Routing.gather_row _ rfl rfl rfl rfl rfl x (wrapped (tops s).2) p k (order s p) hw (by decide)
  generalize inside (wrapped (tops s).2) = M at hi ⊢
  generalize Host.gather gather_S20000x4_S4096x1_S4096x4_1_0_n_n_0_1_14 x (wrapped (tops s).2) = G at hg ⊢
  pointwise
  rw [hi, hg]
  rfl

theorem wanted_apply (x : FVec Ideal S20000x4 .f32) (p : Fin 4096) (k : Fin 8) :
    wanted s x (ix2 p k) = if h4 : k.val < 4 then x (ix2 (order s p) ⟨k.val, h4⟩) else if k.val - 4 < 1 then s (ix1 (order s p)) else 0 := by
  have ht := taken s x p
  have hv := tops_values s p
  unfold wanted
  generalize (tops s).1 = T at hv ⊢
  generalize (select (broadcastInDim S4096x4 ![0] bcast_S4096_S4096x4_0 (inside (wrapped (tops s).2)))
      (Host.gather gather_S20000x4_S4096x1_S4096x4_1_0_n_n_0_1_14 x (wrapped (tops s).2)) (broadcastInDim S4096x4 ![] bcast_S_S4096x4 (constant (F := Ideal) S_ .f32 0x7FC00000#32)) : FVec Ideal S4096x4 .f32) = G at ht ⊢
  pointwise
  by_cases h4 : k.val < 4
  · rw [dif_pos h4, dif_pos h4, ht]
  · rw [dif_neg h4, dif_neg h4, hv]
    by_cases h5 : k.val - 4 < 1
    · rw [dif_pos h5, if_pos h5]
    · rw [dif_neg h5, if_neg h5]

end Cert.SortReferenceIdeal.Wanted

end
-- ==== Proof.Sorting.Reads.lean ====
/-
  The run of the sorting's reference: its host operations in order, and the table they leave in its result.
-/
module

public import proofs.«01_k».proof.Proof.Sorting.Wanted
public import Idealize.ShloMosaic.Lib.StableHlo.Run

@[expose] public section

set_option maxRecDepth 65536

noncomputable section

namespace Cert.SortReferenceIdeal.Wanted

open Cert.SortReferenceIdeal Cert.SortReferenceIdeal.Gen Idealize.ShloMosaic Idealize.ShloMosaic.TcCoe Idealize.SL.Sem Idealize.ShloMosaic.StableHlo

variable {F : FTy → Type} [FloatOps F]

/-- The operations of the reference, with those of the function it calls in that call's place; the four operations
    that search, take and reduce left open. -/
abbrev early (f : FVec F S20000 .f32 → FVec F S4096 .f32) (g : FVec F S20000 .f32 → IVec S4096 32) (r : IVec S4096x1 1 → IVec S_ 1 → IVec S4096 1)
    (d : FVec F S20000x4 .f32 → IVec S4096x1 32 → FVec F S4096x4 .f32) : List (HloOp τ sig (Elt F)) :=
  [ unary main_arg1 main_values (f : (⟨S20000, .f32⟩ : BufTy).Contents (Elt F) → (⟨S4096, .f32⟩ : BufTy).Contents (Elt F)),
    unary main_arg1 main_indices (g : (⟨S20000, .f32⟩ : BufTy).Contents (Elt F) → (⟨S4096, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4096, .i32⟩) main_call0_v0) (broadcastInDim S4096 ![] bcast_S_S4096),
    TRef.binary (TRef.of (T := ⟨S4096, .i32⟩) main_indices) (TRef.of (T := ⟨S4096, .i32⟩) main_call0_v0) (TRef.of (T := ⟨S4096, .i1⟩) main_call0_v1) (cmpi .slt),
    TRef.nullary (TRef.of (T := ⟨S_, .i32⟩) main_call0_c_0) (constantI S_ 32 20000#32),
    TRef.unary (TRef.of (T := ⟨S_, .i32⟩) main_call0_c_0) (TRef.of (T := ⟨S4096, .i32⟩) main_call0_v2) (broadcastInDim S4096 ![] bcast_S_S4096),
    TRef.binary (TRef.of (T := ⟨S4096, .i32⟩) main_indices) (TRef.of (T := ⟨S4096, .i32⟩) main_call0_v2) (TRef.of (T := ⟨S4096, .i32⟩) main_call0_v3) addi,
    TRef.ternary (TRef.of (T := ⟨S4096, .i1⟩) main_call0_v1) (TRef.of (T := ⟨S4096, .i32⟩) main_call0_v3) (TRef.of (T := ⟨S4096, .i32⟩) main_indices) (TRef.of (T := ⟨S4096, .i32⟩) main_call0_v4) select,
    TRef.unary (TRef.of (T := ⟨S4096, .i32⟩) main_call0_v4) (TRef.of (T := ⟨S4096x1, .i32⟩) main_call0_v5) (broadcastInDim S4096x1 ![0] bcast_S4096_S4096x1_0),
    TRef.nullary (TRef.of (T := ⟨S1, .i32⟩) main_call0_c_1) (constantI S1 32 19999#32),
    TRef.nullary (TRef.of (T := ⟨S_, .i32⟩) main_call0_c_2) (constantI S_ 32 0#32),
    TRef.unary (TRef.of (T := ⟨S_, .i32⟩) main_call0_c_2) (TRef.of (T := ⟨S4096x1, .i32⟩) main_call0_v6) (broadcastInDim S4096x1 ![] bcast_S_S4096x1),
    TRef.binary (TRef.of (T := ⟨S4096x1, .i32⟩) main_call0_v5) (TRef.of (T := ⟨S4096x1, .i32⟩) main_call0_v6) (TRef.of (T := ⟨S4096x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S4096x1, .i32⟩) main_call0_v9) (broadcastInDim S4096x1 ![0, 1] bcast_S1x1_S4096x1_0_1),
    TRef.binary (TRef.of (T := ⟨S4096x1, .i32⟩) main_call0_v5) (TRef.of (T := ⟨S4096x1, .i32⟩) main_call0_v9) (TRef.of (T := ⟨S4096x1, .i1⟩) main_call0_v10) (cmpi .sle),
    TRef.binary (TRef.of (T := ⟨S4096x1, .i1⟩) main_call0_v7) (TRef.of (T := ⟨S4096x1, .i1⟩) main_call0_v10) (TRef.of (T := ⟨S4096x1, .i1⟩) main_call0_v11) andi,
    TRef.nullary (TRef.of (T := ⟨S_, .i1⟩) main_call0_c_3) (constantI S_ 1 1#1),
    TRef.binary (TRef.of (T := ⟨S4096x1, .i1⟩) main_call0_v11) (TRef.of (T := ⟨S_, .i1⟩) main_call0_c_3) (TRef.of (T := ⟨S4096, .i1⟩) main_call0_v12) r,
    TRef.binary (TRef.of (T := ⟨S20000x4, .f32⟩) main_arg0) (TRef.of (T := ⟨S4096x1, .i32⟩) main_call0_v5) (TRef.of (T := ⟨S4096x4, .f32⟩) main_call0_v13) d,
    TRef.unary (TRef.of (T := ⟨S4096, .i1⟩) main_call0_v12) (TRef.of (T := ⟨S4096x4, .i1⟩) main_call0_v14) (broadcastInDim S4096x4 ![0] bcast_S4096_S4096x4_0),
    TRef.nullary (TRef.of (T := ⟨S_, .f32⟩) main_call0_cst) (constant S_ .f32 0x7FC00000#32),
    TRef.unary (TRef.of (T := ⟨S_, .f32⟩) main_call0_cst) (TRef.of (T := ⟨S4096x4, .f32⟩) main_call0_v15) (broadcastInDim S4096x4 ![] bcast_S_S4096x4),
    TRef.ternary (TRef.of (T := ⟨S4096x4, .i1⟩) main_call0_v14) (TRef.of (T := ⟨S4096x4, .f32⟩) main_call0_v13) (TRef.of (T := ⟨S4096x4, .f32⟩) main_call0_v15) (TRef.of (T := ⟨S4096x4, .f32⟩) main_v0) select,
    unary main_values main_v1 (broadcastInDim S4096x1 ![0] bcast_S4096_S4096x1_0 : (⟨S4096, .f32⟩ : BufTy).Contents (Elt F) → (⟨S4096x1, .f32⟩ : BufTy).Contents (Elt F)),
    nullary main_cst (constant S_ .f32 0x00000000#32),
    unary main_cst main_v2 (broadcastInDim S4096x3 ![] bcast_S_S4096x3 : (⟨S_, .f32⟩ : BufTy).Contents (Elt F) → (⟨S4096x3, .f32⟩ : BufTy).Contents (Elt F)) ]

/-- The last: the three parts side by side. -/
abbrev late : HloOp τ sig (Elt F) :=
  nary ![main_v0, main_v1, main_v2] main_v3 (fun u => (concatenate S4096x8 1 [⟨S4096x4, (u 0 : (⟨S4096x4, .f32⟩ : BufTy).Contents (Elt F))⟩, ⟨S4096x1, (u 1 : (⟨S4096x1, .f32⟩ : BufTy).Contents (Elt F))⟩, ⟨S4096x3, (u 2 : (⟨S4096x3, .f32⟩ : BufTy).Contents (Elt F))⟩] concatenates_S4096x4_S4096x1_S4096x3_S4096x8_d1 : (⟨S4096x8, .f32⟩ : BufTy).Contents (Elt F)))

/-- The operations of the reference. -/
abbrev ops : List (HloOp τ sig (Elt F)) :=
  early (fun x => (Host.topK S4096 0 (FloatOps.cmpfTotal .gt) x sliceFits_S20000_S4096).1)
    (fun x => (Host.topK S4096 0 (FloatOps.cmpfTotal .gt) x sliceFits_S20000_S4096).2)
    (fun x v => Host.reduce IntOp.andi x v reducesTo_S4096x1_S4096_d1 h_S_)
    (fun x i => Host.gather gather_S20000x4_S4096x1_S4096x4_1_0_n_n_0_1_14 x i) ++ [late]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., nary_bufs_sub ..⟩

variable (f : FVec Ideal S20000 .f32 → FVec Ideal S4096 .f32) (g : FVec Ideal S20000 .f32 → IVec S4096 32)
  (r : IVec S4096x1 1 → IVec S_ 1 → IVec S4096 1) (d : FVec Ideal S20000x4 .f32 → IVec S4096x1 32 → FVec Ideal S4096x4 .f32) (σ : Valuation τ sig (Elt Ideal))

/-- The boxes part, the four operations left open. -/
theorem after_v0 : after (early f g r d) σ (Proc.devRef .tc main_v0)
      = (select (broadcastInDim S4096x4 ![0] bcast_S4096_S4096x4_0
            (r (andi (cmpi .sge (wrapped (g (σ (Proc.devRef .tc main_arg1)))) (broadcastInDim S4096x1 ![] bcast_S_S4096x1 (constantI S_ 32 0#32)))
              (cmpi .sle (wrapped (g (σ (Proc.devRef .tc main_arg1)))) (broadcastInDim S4096x1 ![0, 1] bcast_S1x1_S4096x1_0_1 (broadcastInDim S1x1 ![1] bcast_S1_S1x1_1 (constantI S1 32 19999#32))))) (constantI S_ 1 1#1)))
          (d (σ (Proc.devRef .tc main_arg0)) (wrapped (g (σ (Proc.devRef .tc main_arg1))))) (broadcastInDim S4096x4 ![] bcast_S_S4096x4 (constant (F := Ideal) S_ .f32 0x7FC00000#32)) : FVec Ideal S4096x4 .f32) := by
  simp only [early, TRef.binary, TRef.nullary, TRef.ternary, TRef.unary, TRef.toBuf, TRef.ofBuf, cast_eq]
  after_results <;> rfl

/-- The scores part. -/
theorem after_v1 : after (early f g r d) σ (Proc.devRef .tc main_v1)
      = (broadcastInDim S4096x1 ![0] bcast_S4096_S4096x1_0 (f (σ (Proc.devRef .tc main_arg1))) : FVec Ideal S4096x1 .f32) := by
  simp only [early, TRef.binary, TRef.nullary, TRef.ternary, TRef.unary, TRef.toBuf, TRef.ofBuf, cast_eq]
  after_results <;> rfl

/-- The zeros. -/
theorem after_v2 : after (early f g r d) σ (Proc.devRef .tc main_v2)
      = (broadcastInDim S4096x3 ![] bcast_S_S4096x3 (constant (F := Ideal) S_ .f32 0x00000000#32) : FVec Ideal S4096x3 .f32) := by
  simp only [early, TRef.binary, TRef.nullary, TRef.ternary, TRef.unary, TRef.toBuf, TRef.ofBuf, cast_eq]
  after_results <;> rfl

/-- The first argument is not written. -/
theorem after_arg0 : after (early f g r d) σ (Proc.devRef .tc main_arg0) = σ (Proc.devRef .tc main_arg0) := by
  simp only [early, TRef.binary, TRef.nullary, TRef.ternary, TRef.unary, TRef.toBuf, TRef.ofBuf, cast_eq]
  after_results <;> rfl

/-- Nor is the second. -/
theorem after_arg1 : after (early f g r d) σ (Proc.devRef .tc main_arg1) = σ (Proc.devRef .tc main_arg1) := by
  simp only [early, TRef.binary, TRef.nullary, TRef.ternary, TRef.unary, TRef.toBuf, TRef.ofBuf, cast_eq]
  after_results <;> rfl

/-- The last operation, from any contents. -/
theorem late_v3 (A : FVec Ideal S4096x4 .f32) (B : FVec Ideal S4096x1 .f32) (C : FVec Ideal S4096x3 .f32)
    (hA : σ (Proc.devRef .tc main_v0) = A) (hB : σ (Proc.devRef .tc main_v1) = B) (hC : σ (Proc.devRef .tc main_v2) = C) :
    after [late (F := Ideal)] σ (Proc.devRef .tc main_v3)
      = (concatenate S4096x8 1 [⟨S4096x4, A⟩, ⟨S4096x1, B⟩, ⟨S4096x3, C⟩] concatenates_S4096x4_S4096x1_S4096x3_S4096x8_d1 : FVec Ideal S4096x8 .f32) := by
  subst hA hB hC
  after_results <;> rfl

theorem late_arg0 : after [late (F := Ideal)] σ (Proc.devRef .tc main_arg0) = σ (Proc.devRef .tc main_arg0) := by
  after_results <;> rfl

theorem late_arg1 : after [late (F := Ideal)] σ (Proc.devRef .tc main_arg1) = σ (Proc.devRef .tc main_arg1) := by
  after_results <;> rfl

/-- The run: the result holds the wanted table, and the arguments are as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = wanted (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans ((congrFun (after_append _ _ _) _).trans (late_v3 _ _ _ _ (after_v0 _ _ _ _ _) (after_v1 _ _ _ _ _) (after_v2 _ _ _ _ _))),
      (h c main_arg0).trans ((congrFun (after_append _ _ _) _).trans ((late_arg0 _).trans (after_arg0 _ _ _ _ _))),
      (h c main_arg1).trans ((congrFun (after_append _ _ _) _).trans ((late_arg1 _).trans (after_arg1 _ _ _ _ _)))⟩)
    (run_seq scopedRefs_eq scopedSems_eq defs main (fun _ => ops) main_eq (fun _ => ops_sub) m ρ)

end Cert.SortReferenceIdeal.Wanted

end
-- ==== Proof.Sorting.Require.lean ====
/-
  What the condition on the inputs says, entry by entry: no box coordinate and no score is `+∞`, and no score is under `-1`.
-/
module

public import proofs.«01_k».proof.Pre_sort_pre
public import proofs.«01_k».proof.Proof.Value.Bits
public import Idealize.ShloMosaic.Lib.Pointwise
public import Idealize.ShloMosaic.Lib.ReduceAll
public import Idealize.ShloMosaic.Lib.ShapeFacts

@[expose] public section

set_option maxRecDepth 16384

noncomputable section

namespace Cert.Pre_sort_pre

open Cert.Truth
open Idealize.ShloMosaic Idealize.ShloMosaic.Pointwise

instance facts : Facts where
  bcast_S_S20000x4 := by decide
  reducesTo_S20000x4_S_d0_1 := by decide
  h_S_ := by decide
  bcast_S_S20000 := by decide
  reducesTo_S20000_S_d0 := by decide

theorem top_bits : (Ideal.ofBits .f32 0x7F800000#32 : EReal) = ⊤ := by simp [Ideal.ofBits, Ideal.ieee]

instance : Subsingleton S_.Idx := ⟨fun _ _ => funext fun a => a.elim0⟩

/-- The condition, read. -/
theorem read [Facts] (x : FVec Ideal S20000x4 .f32) (s : FVec Ideal S20000 .f32) (h : fn (F := Ideal) x s = fun _ => 1#1) :
    (∀ i, x i ≠ (⊤ : EReal)) ∧ (∀ i, s i ≠ (⊤ : EReal)) ∧ ∀ i, (Ideal.ofBits .f32 0xBF800000#32 : EReal) ≤ s i := by
  have e := congrFun h (fun a => a.elim0)
  dsimp only [fn] at e
  obtain ⟨e12, e3⟩ := (andi_one _ _).mp e
  obtain ⟨e1, e2⟩ := (andi_one _ _).mp e12
  have a1 := fun i => Host.reduce_andi_all _ _ _ _ _ e1 i
  have a2 := fun i => Host.reduce_andi_all _ _ _ _ _ e2 i
  have a3 := fun i => Host.reduce_andi_all _ _ _ _ _ e3 i
  refine ⟨fun i => ?_, fun i => ?_, fun i => ?_⟩
  · have b : BitVec.ofBool (decide ((x i : EReal) < Ideal.ofBits .f32 0x7F800000#32)) = 1#1 := a1 i
    rw [ofBool_one, decide_iff, top_bits] at b
    exact b.ne
  · have b : BitVec.ofBool (decide ((s i : EReal) < Ideal.ofBits .f32 0x7F800000#32)) = 1#1 := a2 i
    rw [ofBool_one, decide_iff, top_bits] at b
    exact b.ne
  · have b : BitVec.ofBool (decide ((Ideal.ofBits .f32 0xBF800000#32 : EReal) ≤ s i)) = 1#1 := a3 i
    rw [ofBool_one, decide_iff] at b
    exact b

end Cert.Pre_sort_pre

end
-- ==== Proof.Sorting.Words.lean ====
/-
  The words of the ranking: what one block of 512 keys stores, as one expression in the block's keys and in the whole row of keys, the same in each of the
  kernel's ten branches.
-/
module

public import proofs.«01_k».proof.Proof.Gen.SortIdeal.Frame
public import Idealize.ShloMosaic.Lib.VecWindow

@[expose] public section

set_option maxRecDepth 16384

noncomputable section

namespace Cert.SortIdeal.Rank

open Cert.SortIdeal Cert.SortIdeal.Gen
open Idealize.ShloMosaic

variable {F : FTy → Type} [FloatOps F]

/-- Which chunk of 2048 keys a block lies in: its grid coordinate divided by four, as the kernel computes it. -/
def own (i : grid1.Coords) : BitVec 32 :=
  let a : BitVec 32 := BitVec.ofNat 32 (i 0).val
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt 4#32 0#32)) (Scalar.extui (Scalar.cmpi .slt 4#32 0#32))))
      (Scalar.cmpi .ne (Scalar.remsi a 4#32) 0#32))
    (Scalar.subi (Scalar.divsi a 4#32) 1#32) (Scalar.divsi a 4#32)

/-- One where a key of the chunk goes before a key of the block: it is greater, or equal and in an earlier chunk. -/
def wins (a : FVec F S512x1 .f32) (b c : BitVec 32) (k : Vec F S1x2048 .f32) : FVec F S512x2048 .f32 :=
  let k' : FVec F S1x2048 .f32 := shapeCast S1x2048 k shapeCasts_S1x2048_S1x2048
  sitofp .f32 (extui 32 (ori
    (cmpf .ogt (broadcastTo S512x2048 k' broadcasts_S1x2048_S512x2048) (broadcastTo S512x2048 a broadcasts_S512x1_S512x2048))
    (andi (cmpf .oeq (broadcastTo S512x2048 k' broadcasts_S1x2048_S512x2048) (broadcastTo S512x2048 a broadcasts_S512x1_S512x2048))
      (broadcast S512x2048 (Scalar.cmpi .sgt b c)))) natLt_1_32)

/-- The sixteen lane groups of a chunk added to the running lanes, one after the other. -/
def lanes (acc : FVec F S512x128 .f32) (w : FVec F S512x2048 .f32) : FVec F S512x128 .f32 :=
  addf (addf (addf (addf (addf (addf (addf (addf (addf (addf (addf (addf (addf (addf (addf (addf acc
    (extractStridedSlice S512x128 ![0, 0] w slices_S512x2048_o0_0_S512x128))
    (extractStridedSlice S512x128 ![0, 128] w slices_S512x2048_o0_128_S512x128))
    (extractStridedSlice S512x128 ![0, 256] w slices_S512x2048_o0_256_S512x128))
    (extractStridedSlice S512x128 ![0, 384] w slices_S512x2048_o0_384_S512x128))
    (extractStridedSlice S512x128 ![0, 512] w slices_S512x2048_o0_512_S512x128))
    (extractStridedSlice S512x128 ![0, 640] w slices_S512x2048_o0_640_S512x128))
    (extractStridedSlice S512x128 ![0, 768] w slices_S512x2048_o0_768_S512x128))
    (extractStridedSlice S512x128 ![0, 896] w slices_S512x2048_o0_896_S512x128))
    (extractStridedSlice S512x128 ![0, 1024] w slices_S512x2048_o0_1024_S512x128))
    (extractStridedSlice S512x128 ![0, 1152] w slices_S512x2048_o0_1152_S512x128))
    (extractStridedSlice S512x128 ![0, 1280] w slices_S512x2048_o0_1280_S512x128))
    (extractStridedSlice S512x128 ![0, 1408] w slices_S512x2048_o0_1408_S512x128))
    (extractStridedSlice S512x128 ![0, 1536] w slices_S512x2048_o0_1536_S512x128))
    (extractStridedSlice S512x128 ![0, 1664] w slices_S512x2048_o0_1664_S512x128))
    (extractStridedSlice S512x128 ![0, 1792] w slices_S512x2048_o0_1792_S512x128))
    (extractStridedSlice S512x128 ![0, 1920] w slices_S512x2048_o0_1920_S512x128)

/-- A chunk of 2048 keys lies in the row. -/
theorem chunk_in (j : ℕ) (h : j < 10) : ∀ a, (![0, 2048 * j] : Fin 2 → ℕ) a + S1x2048.size a ≤ S1x20480.size a := fun a => by
  match a with
  | ⟨0, _⟩ => exact Nat.le_refl 1
  | ⟨1, _⟩ => show 2048 * j + 2048 ≤ 20480; omega

/-- Chunk `j` of the row of keys. -/
def chunk (x1 : Vec F S1x20480 .f32) (j : ℕ) (h : j < 10) : Vec F S1x2048 .f32 :=
  VecWindow.window x1 ![0, 2048 * j] S1x2048.size (chunk_in j h)

/-- The running lanes after the first `n` chunks. -/
def upTo (a : FVec F S512x1 .f32) (b : BitVec 32) (x1 : Vec F S1x20480 .f32) : (n : ℕ) → n ≤ 10 → FVec F S512x128 .f32
  | 0, _ => broadcast S512x128 (Scalar.ofBits .f32 0x00000000#32)
  | n + 1, h => lanes (upTo a b x1 n (Nat.le_of_succ_le h)) (wins a b (BitVec.ofNat 32 n) (chunk x1 n h))

/-- The first number stored: the lanes added up. -/
def total (acc : FVec F S512x128 .f32) : IVec S512x1 32 :=
  fptosi 32 (shapeCast S512x1 (multiReduction .add [1] S512 acc 0x00000000#32 reduces_S512x128_S512 (.inl rfl) rfl) shapeCasts_S512_S512x1)

/-- The second number stored: to the first is added how many equal keys of the block's own chunk stand earlier. -/
def addTies (a : FVec F S512x1 .f32) (p : IVec S512x1 32) (o : BitVec 32) (k : Vec F S1x2048 .f32) (t : Vec F S512x1 .i32) : IVec S512x1 32 :=
  addi (shapeCast S512x1 t shapeCasts_S512x1_S512x1) (fptosi 32 (shapeCast S512x1 (multiReduction .add [1] S512
    (sitofp .f32 (extui 32 (andi
      (cmpf .oeq (broadcastTo S512x2048 (shapeCast S1x2048 k shapeCasts_S1x2048_S1x2048 : FVec F S1x2048 .f32) broadcasts_S1x2048_S512x2048)
        (broadcastTo S512x2048 a broadcasts_S512x1_S512x2048))
      (cmpi .slt (broadcastTo S512x2048 (addi (broadcast S1x2048 o) (iota .tc S1x2048 32 [1] iota_S1x2048_d1_w32)) broadcasts_S1x2048_S512x2048)
        (broadcastTo S512x2048 p broadcasts_S512x1_S512x2048))) natLt_1_32) : FVec F S512x2048 .f32)
    0x00000000#32 reduces_S512x2048_S512 (.inl rfl) rfl) shapeCasts_S512_S512x1))

/-- What a block of the ranking leaves: `j` is the chunk the block lies in. -/
def ranks (i : grid1.Coords) (j : ℕ) (h : j < 10) (x0 : Vec F S512x1 .f32) (x1 : Vec F S1x20480 .f32) : Vec F S512x1 .i32 :=
  addTies (k1_pay2 x0) (k1_pay3 i) (BitVec.ofNat 32 (2048 * j)) (chunk x1 j h) (total (upTo (k1_pay2 x0) (own i) x1 10 (Nat.le_refl 10)))

/-- The first number stored, as the kernel's payloads compute it one from another. -/
abbrev chain (i : grid1.Coords) (x0 : Vec F S512x1 .f32) (k0 k1 k2 k3 k4 k5 k6 k7 k8 k9 : Vec F S1x2048 .f32) : IVec S512x1 32 :=
  k1_pay24 (k1_pay2 x0) (own i)
    (k1_pay23 (k1_pay2 x0) (own i) (k1_pay21 (k1_pay2 x0) (own i) k7)
      (k1_pay22 (k1_pay2 x0) (own i) (k1_pay18 (k1_pay2 x0) (own i) k6)
        (k1_pay19 (k1_pay2 x0) (own i) (k1_pay16 (k1_pay2 x0) (own i) k5)
          (k1_pay17 (k1_pay2 x0) (own i)
            (k1_pay12 (k1_pay2 x0) (own i) (k1_pay9 (k1_pay2 x0) (own i) k2)
              (k1_pay10 (k1_pay2 x0) (own i) (k1_pay7 (k1_pay2 x0) (own i) k1)
                (k1_pay8 (k1_pay2 x0) (own i) (k1_pay4 i x0 k0) (k1_pay5 i x0 k0) (k1_pay6 i x0 k0) k1) k2)
              (k1_pay11 (k1_pay2 x0) (own i) k2) k3)
            (k1_pay14 (k1_pay2 x0) k4) (k1_pay15 k4) k5)
          k6)
        (k1_pay20 (k1_pay2 x0) (own i) k6) k7)
      k8)
    k9

/-- Those payloads are the ten chunks' lanes added up. -/
theorem chain_eq (i : grid1.Coords) (x0 : Vec F S512x1 .f32) (x1 : Vec F S1x20480 .f32) :
    chain i x0 (chunk x1 0 (by decide)) (chunk x1 1 (by decide)) (chunk x1 2 (by decide)) (chunk x1 3 (by decide)) (chunk x1 4 (by decide))
      (chunk x1 5 (by decide)) (chunk x1 6 (by decide)) (chunk x1 7 (by decide)) (chunk x1 8 (by decide)) (chunk x1 9 (by decide))
      = total (upTo (k1_pay2 x0) (own i) x1 10 (Nat.le_refl 10)) := by
  simp only [upTo]
  unfold total
  rfl

/-- Two stores of a whole block, the second of which reads the first: what the second stores of what the first stored. -/
theorem two_stores (v v' : View sig .tc .vmem S512x1 .i32) (g : Vec F S512x1 .i32 → Vec F S512x1 .i32) (w : Vec F S512x1 .i32) :
    v.read (Elt F) (v.writes (Elt F) v.junk
      [⟨Rect.unit ![0, 0] ![512, 1] inb_S512x1_S512x1_0_0, g (v'.readCov [⟨Rect.unit ![0, 0] ![512, 1] inb_S512x1_S512x1_0_0, w⟩]
        (Rect.unit ![0, 0] S512x1.size inb_S512x1_S512x1_0_0).toLoadRect)⟩,
       ⟨Rect.unit ![0, 0] ![512, 1] inb_S512x1_S512x1_0_0, w⟩]) = g w := by
  refine (View.read_writes_full v v.junk inb_S512x1_S512x1_0_0 _ _).trans (congrArg g ?_)
  exact View.readCov_full v' inb_S512x1_S512x1_0_0 inb_S512x1_S512x1_0_0 w []

end Cert.SortIdeal.Rank

end
-- ==== Proof.Sorting.Tally.lean ====
/-
  Truth values counted: as natural numbers, as extended reals, as words.
-/
module

public import proofs.«01_k».proof.Proof.Sorting.Order
public import proofs.«01_k».proof.Proof.Value.Bits

@[expose] public section

noncomputable section

namespace Cert.Standing

open Idealize.ShloMosaic Cert.Truth

/-- One where `p` holds, else zero. -/
def one (p : Prop) : ℕ := open Classical in if p then 1 else 0

theorem one_true {p : Prop} (h : p) : one p = 1 := if_pos h
theorem one_false {p : Prop} (h : ¬p) : one p = 0 := if_neg h
theorem one_congr {p q : Prop} (h : p ↔ q) : one p = one q := congrArg one (propext h)
theorem one_le (p : Prop) : one p ≤ 1 := by unfold one; split <;> omega

/-- A truth value of the extended reals is one of the natural numbers. -/
theorem bit_one (p : Prop) : bit p = ((one p : ℕ) : EReal) := by
  by_cases h : p
  · rw [bit_true h, one_true h, Nat.cast_one]
  · rw [bit_false h, one_false h, Nat.cast_zero]

/-- A sum of natural numbers, read as extended reals. -/
theorem sum_cast {ι : Type} (s : Finset ι) (f : ι → ℕ) : ∑ i ∈ s, ((f i : ℕ) : EReal) = ((∑ i ∈ s, f i : ℕ) : EReal) := by
  classical
  induction s using Finset.induction_on with
  | empty => simp
  | insert a s h ih => rw [Finset.sum_insert h, Finset.sum_insert h, ih, Nat.cast_add]

/-- A natural number below `2 ^ 31`, turned into a word. -/
theorem fptosi_nat (n : ℕ) (h : n < 2147483648) : Ideal.fptosi 32 ((n : ℕ) : EReal) = BitVec.ofNat 32 n := by
  have e : ((n : ℕ) : EReal) = (((n : ℕ) : ℝ) : EReal) := rfl
  rw [e]
  unfold Ideal.fptosi
  rw [Ideal.toIntClamped_coe, if_pos (Nat.cast_nonneg n), Int.floor_natCast]
  have h2 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    omega
  rw [h2]
  exact BitVec.ofInt_natCast 32 n

/-- A sum over groups of `n`, each added up, is the sum over all. -/
theorem sum_groups (f : ℕ → ℕ) (n m : ℕ) : ∑ a ∈ Finset.range m, ∑ b ∈ Finset.range n, f (n * a + b) = ∑ k ∈ Finset.range (n * m), f k := by
  induction m with
  | zero => simp
  | succ m ih => rw [Finset.sum_range_succ, ih, Nat.mul_succ, Finset.sum_range_add]

/-- How many go before an entry, as a sum of truth values. -/
theorem place_sum {n : ℕ} (s : Fin n → EReal) (i : Fin n) : place s i = ∑ j : Fin n, one (Ahead s j i) := by
  classical
  unfold place one
  rw [Finset.card_filter]

end Cert.Standing

end
-- ==== Proof.Sorting.Count.lean ====
/-
  The ranking's words, over the extended reals: for every key, how many keys go before it.
-/
module

public import proofs.«01_k».proof.Proof.Sorting.Words
public import proofs.«01_k».proof.Proof.Sorting.Tally
public import Idealize.ShloMosaic.Lib.Pointwise
public import Idealize.ShloMosaic.Lib.WordCmp

@[expose] public section

set_option maxRecDepth 16384

noncomputable section

namespace Cert.SortIdeal.Rank

open Cert.SortIdeal Cert.SortIdeal.Gen Cert.Truth Cert.Standing
open Idealize.ShloMosaic

/-- Key `k` of the row of keys. -/
def key (x1 : Vec Ideal S1x20480 .f32) (k : ℕ) : EReal := if h : k < 20480 then x1 (ix2 0 ⟨k, h⟩) else 0

theorem key_of (x1 : Vec Ideal S1x20480 .f32) (k : Fin 20480) : x1 (ix2 0 k) = key x1 k.val := by
  unfold key; rw [dif_pos k.isLt]

/-- A key of a chunk. -/
theorem chunk_key (x1 : Vec Ideal S1x20480 .f32) (j : ℕ) (h : j < 10) (k : Fin 2048) : chunk x1 j h (ix2 0 k) = key x1 (2048 * j + k.val) := by
  unfold chunk VecWindow.window key
  rw [dif_pos (by omega)]
  congr 1
  funext a
  match a with
  | ⟨0, _⟩ => exact Fin.ext (by show 0 + 1 * 0 = 0; omega)
  | ⟨1, _⟩ => exact Fin.ext (by show 2048 * j + 1 * k.val = 2048 * j + k.val; omega)

theorem ori_one (a b : BitVec 1) : IntOp.ori a b = 1#1 ↔ a = 1#1 ∨ b = 1#1 := by
  revert a b; decide

theorem slt_word (i j : ℕ) (hi : i < 100000) (hj : j < 100000) :
    IntOp.cmpi .slt (BitVec.ofNat 32 i) (BitVec.ofNat 32 j) = 1#1 ↔ i < j := by
  rw [WordCmp.cmpi_slt_ofNat (by omega) (by omega), ofBool_one]; simp

theorem sgt_word (i j : ℕ) (hi : i < 100000) (hj : j < 100000) :
    IntOp.cmpi .sgt (BitVec.ofNat 32 i) (BitVec.ofNat 32 j) = 1#1 ↔ j < i := by
  rw [WordCmp.cmpi_sgt_ofNat (by omega) (by omega), ofBool_one]; simp

/-- The chunk a block lies in is a fourth of its coordinate. -/
theorem own_eq (i : grid1.Coords) : own i = BitVec.ofNat 32 ((i 0).val / 4) := by
  have : ∀ k : Fin 40, (let a : BitVec 32 := BitVec.ofNat 32 k.val
      Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt 4#32 0#32)) (Scalar.extui (Scalar.cmpi .slt 4#32 0#32))))
      (Scalar.cmpi .ne (Scalar.remsi a 4#32) 0#32))
    (Scalar.subi (Scalar.divsi a 4#32) 1#32) (Scalar.divsi a 4#32)) = BitVec.ofNat 32 (k.val / 4) := by decide +kernel
  exact this (i 0)

/-- One entry of a chunk's comparisons. -/
theorem wins_apply (a : FVec Ideal S512x1 .f32) (b c : ℕ) (hb : b < 100) (hc : c < 100) (k : Vec Ideal S1x2048 .f32) (r : Fin 512) (l : Fin 2048) :
    wins a (BitVec.ofNat 32 b) (BitVec.ofNat 32 c) k (ix2 r l)
      = bit (a (ix2 r 0) < k (ix2 0 l) ∨ (k (ix2 0 l) = a (ix2 r 0) ∧ c < b)) := by
  pointwise [wins]
  rw [sitofp_bit]
  refine bit_congr ?_
  rw [ori_one, andi_one, ofBool_one, ofBool_one, decide_iff, decide_iff]
  exact or_congr Iff.rfl (and_congr Iff.rfl (sgt_word b c (by omega) (by omega)))

/-- The sixteen lane groups of a row. -/
theorem lanes_apply (acc : FVec Ideal S512x128 .f32) (w : FVec Ideal S512x2048 .f32) (r : Fin 512) (l : Fin 128) (f : ℕ → ℕ) (n : ℕ)
    (ha : acc (ix2 r l) = ((n : ℕ) : EReal)) (hw : ∀ k : Fin 2048, w (ix2 r k) = ((f k.val : ℕ) : EReal)) :
    lanes acc w (ix2 r l) = ((n + ∑ t ∈ Finset.range 16, f (128 * t + l.val) : ℕ) : EReal) := by
  pointwise [lanes]
  simp only [ha, hw, Finset.sum_range_succ, Finset.sum_range_zero, ← Nat.cast_add]
  refine congrArg Nat.cast ?_
  simp only [Nat.reduceMul, Nat.mul_zero, Nat.mul_one, Nat.zero_add, Nat.add_assoc]

/-- The row's lanes added up. -/
theorem total_apply (acc : FVec Ideal S512x128 .f32) (r : Fin 512) : total acc (ix2 r 0) = Ideal.fptosi 32 (∑ l : Fin 128, acc (ix2 r l)) := by
  pointwise [total]
  rfl

/-- The second number, entry by entry. -/
theorem addTies_apply (a : FVec Ideal S512x1 .f32) (p : IVec S512x1 32) (o : ℕ) (k : Vec Ideal S1x2048 .f32) (t : Vec Ideal S512x1 .i32) (r : Fin 512)
    (q : ℕ) (hq : q < 30000) (ho : o < 30000) (hp : p (ix2 r 0) = BitVec.ofNat 32 q) :
    addTies a p (BitVec.ofNat 32 o) k t (ix2 r 0)
      = IntOp.addi (t (ix2 r 0)) (Ideal.fptosi 32 (∑ l : Fin 2048, bit (k (ix2 0 l) = a (ix2 r 0) ∧ o + l.val < q))) := by
  pointwise [addTies]
  refine congrArg (IntOp.addi (t (ix2 r 0))) (congrArg (Ideal.fptosi 32) (Finset.sum_congr rfl fun l _ => ?_))
  rw [sitofp_bit]
  refine bit_congr ?_
  rw [andi_one, ofBool_one, decide_iff, hp]
  refine and_congr Iff.rfl ?_
  have e : IntOp.addi (BitVec.ofNat 32 o) (BitVec.ofNat 32 l.val) = BitVec.ofNat 32 (o + l.val) := (BitVec.ofNat_add o l.val).symm
  rw [e]
  exact slt_word _ _ (by omega) (by omega)

/-- The place of a row in the whole column of keys. -/
theorem place_word (i : grid1.Coords) (r : Fin 512) : k1_pay3 i (ix2 r 0) = BitVec.ofNat 32 (512 * (i 0).val + r.val) := by
  pointwise [k1_pay3]
  have hi : (i 0).val < 40 := (i 0).isLt
  have e : Scalar.muli (BitVec.ofNat 32 (i 0).val) 512#32 = BitVec.ofNat 32 ((i 0).val * 512) := (BitVec.ofNat_mul (i 0).val 512).symm
  rw [e, Nat.mul_comm]
  exact (BitVec.ofNat_add _ _).symm

/-- The running lanes after `n` chunks: how many of the keys read there so far go before the block's key. -/
theorem upTo_apply (i : grid1.Coords) (x0 : Vec Ideal S512x1 .f32) (x1 : Vec Ideal S1x20480 .f32) (r : Fin 512) (l : Fin 128) :
    ∀ (n : ℕ) (h : n ≤ 10), upTo (k1_pay2 x0) (own i) x1 n h (ix2 r l)
      = ((∑ c ∈ Finset.range n, ∑ t ∈ Finset.range 16, one (x0 (ix2 r 0) < key x1 (2048 * c + (128 * t + l.val))
          ∨ (key x1 (2048 * c + (128 * t + l.val)) = x0 (ix2 r 0) ∧ c < (i 0).val / 4)) : ℕ) : EReal)
  | 0, _ => by
    rw [Finset.sum_range_zero, Nat.cast_zero]
    unfold upTo
    pointwise
  | n + 1, h => by
    rw [Finset.sum_range_succ]
    unfold upTo
    refine lanes_apply _ _ r l (fun k => one (x0 (ix2 r 0) < key x1 (2048 * n + k) ∨ (key x1 (2048 * n + k) = x0 (ix2 r 0) ∧ n < (i 0).val / 4)))
      _ (upTo_apply i x0 x1 r l n _) fun k => ?_
    have hi : (i 0).val < 40 := (i 0).isLt
    rw [own_eq, wins_apply _ _ _ (by omega) (by omega), chunk_key, bit_one]
    have e : k1_pay2 x0 (ix2 r 0) = x0 (ix2 r 0) := by pointwise [k1_pay2]
    rw [e]

/-- All the lanes: how many keys are greater, or equal and in an earlier chunk. -/
theorem all_lanes (i : grid1.Coords) (x0 : Vec Ideal S512x1 .f32) (x1 : Vec Ideal S1x20480 .f32) (r : Fin 512) :
    total (upTo (k1_pay2 x0) (own i) x1 10 (Nat.le_refl 10)) (ix2 r 0)
      = BitVec.ofNat 32 (∑ k ∈ Finset.range 20480, one (x0 (ix2 r 0) < key x1 k ∨ (key x1 k = x0 (ix2 r 0) ∧ k / 2048 < (i 0).val / 4))) := by
  set f : ℕ → ℕ := fun k => one (x0 (ix2 r 0) < key x1 k ∨ (key x1 k = x0 (ix2 r 0) ∧ k / 2048 < (i 0).val / 4)) with hf
  have e : ∀ l : Fin 128, upTo (k1_pay2 x0) (own i) x1 10 (Nat.le_refl 10) (ix2 r l)
      = ((∑ c ∈ Finset.range 10, ∑ t ∈ Finset.range 16, f (2048 * c + (128 * t + l.val)) : ℕ) : EReal) := fun l => by
    rw [upTo_apply]
    refine congrArg Nat.cast (Finset.sum_congr rfl fun c hc => Finset.sum_congr rfl fun t ht => one_congr ?_)
    have ht' := Finset.mem_range.mp ht
    have : (2048 * c + (128 * t + l.val)) / 2048 = c := by omega
    rw [this]
  have e2 : ∑ l : Fin 128, ∑ c ∈ Finset.range 10, ∑ t ∈ Finset.range 16, f (2048 * c + (128 * t + l.val)) = ∑ k ∈ Finset.range 20480, f k := by
    rw [Finset.sum_comm]
    have : ∀ c ∈ Finset.range 10, ∑ l : Fin 128, ∑ t ∈ Finset.range 16, f (2048 * c + (128 * t + l.val)) = ∑ b ∈ Finset.range 2048, f (2048 * c + b) := fun c _ => by
      rw [Finset.sum_comm]
      rw [← sum_groups (fun b => f (2048 * c + b)) 128 16]
      refine Finset.sum_congr rfl fun t _ => ?_
      exact (Finset.sum_range (fun b => f (2048 * c + (128 * t + b)))).symm
    rw [Finset.sum_congr rfl this, sum_groups f 2048 10]
  have hb : ∑ k ∈ Finset.range 20480, f k ≤ 20480 := by
    refine (Finset.sum_le_card_nsmul _ _ 1 fun k _ => one_le _).trans ?_
    simp
  rw [total_apply, Finset.sum_congr rfl fun l _ => e l, sum_cast, e2]
  exact fptosi_nat _ (by omega)

/-- The ties of the block's own chunk that stand earlier. -/
theorem own_ties (g : ℕ → Prop) (j q : ℕ) (hj : j < 10) (hq : q / 2048 = j) :
    ∑ l : Fin 2048, one (g (2048 * j + l.val) ∧ 2048 * j + l.val < q) = ∑ k ∈ Finset.range 20480, one (g k ∧ k < q ∧ k / 2048 = j) := by
  have e := sum_groups (fun k => one (g k ∧ k < q ∧ k / 2048 = j)) 2048 10
  rw [show 2048 * 10 = 20480 from rfl] at e
  rw [← e, Finset.sum_eq_single j]
  · rw [Finset.sum_range]
    refine Finset.sum_congr rfl fun l _ => one_congr ?_
    have : (2048 * j + l.val) / 2048 = j := by omega
    simp [this]
  · intro c _ hc
    refine Finset.sum_eq_zero fun b hb => one_false ?_
    have hb' := Finset.mem_range.mp hb
    rintro ⟨-, -, h⟩
    omega
  · intro h
    exact absurd (Finset.mem_range.mpr hj) h

/-- A block's numbers: how many keys go before each of its keys. -/
theorem ranks_apply (i : grid1.Coords) (j : ℕ) (h : j < 10) (hj : (i 0).val / 4 = j) (x0 : Vec Ideal S512x1 .f32) (x1 : Vec Ideal S1x20480 .f32) (r : Fin 512)
    (p : Fin 20480) (hp : p.val = 512 * (i 0).val + r.val) (hx : x0 (ix2 r 0) = x1 (ix2 0 p)) :
    ranks i j h x0 x1 (ix2 r 0) = BitVec.ofNat 32 (place (fun k : Fin 20480 => x1 (ix2 0 k)) p) := by
  have hi : (i 0).val < 40 := (i 0).isLt
  unfold ranks
  rw [addTies_apply _ _ _ _ _ r (512 * (i 0).val + r.val) (by omega) (by omega) (place_word i r), all_lanes]
  have e : k1_pay2 x0 (ix2 r 0) = x0 (ix2 r 0) := by pointwise [k1_pay2]
  rw [e]
  simp only [chunk_key, bit_one]
  rw [sum_cast]
  rw [own_ties (fun k => key x1 k = x0 (ix2 r 0)) j (512 * (i 0).val + r.val) h (by omega)]
  have hb : ∑ k ∈ Finset.range 20480, one (key x1 k = x0 (ix2 r 0) ∧ k < 512 * (i 0).val + r.val ∧ k / 2048 = j) ≤ 20480 := by
    refine (Finset.sum_le_card_nsmul _ _ 1 fun k _ => one_le _).trans ?_
    simp
  rw [fptosi_nat _ (by omega)]
  refine (BitVec.ofNat_add _ _).symm.trans (congrArg (BitVec.ofNat 32) ?_)
  rw [← Finset.sum_add_distrib, place_sum, Finset.sum_range]
  refine Finset.sum_congr rfl fun k _ => ?_
  rw [hx, ← key_of x1 k, ← hp, hj]
  unfold Ahead
  by_cases h1 : x1 (ix2 0 p) < x1 (ix2 0 k)
  · rw [one_true (Or.inl h1), one_true (Or.inl h1), one_false fun g => absurd g.1 h1.ne']
  · by_cases h2 : x1 (ix2 0 k) = x1 (ix2 0 p)
    · by_cases h3 : k.val / 2048 < j
      · rw [one_true (Or.inr ⟨h2, h3⟩), one_false (fun g => by have := g.2.2; omega), one_true (Or.inr ⟨h2, Fin.lt_def.mpr (by omega)⟩)]
      · rw [one_false (fun g => g.elim h1 fun g => h3 g.2), Nat.zero_add]
        refine one_congr ⟨fun g => Or.inr ⟨h2, Fin.lt_def.mpr g.2.1⟩, fun g => g.elim (fun g => absurd g h1) fun g => ⟨h2, Fin.lt_def.mp g.2, ?_⟩⟩
        have := Fin.lt_def.mp g.2
        omega
    · rw [one_false (fun g => g.elim h1 fun g => h2 g.1), one_false (fun g => h2 g.1), one_false (fun g => g.elim h1 fun g => h2 g.1)]

end Cert.SortIdeal.Rank

end
-- ==== Proof.Sorting.Branches.lean ====
/-
  Each of the ranking's ten branches leaves the words of `Rank.ranks`.
-/
module

public import proofs.«01_k».proof.Proof.Sorting.Words

@[expose] public section

set_option maxRecDepth 16384

noncomputable section

namespace Cert.SortIdeal.Rank

open Cert.SortIdeal Cert.SortIdeal.Gen
open Idealize.ShloMosaic Idealize.ShloMosaic.TcCoe

variable {F : FTy → Type} [FloatOps F]
variable (c : Dev nD) (i : grid1.Coords) (arg1 : Memref sig .tc .vmem S512x1 .f32) (harg1 : arg1.IsWhole) (arg2 : Memref sig .tc .vmem S1x20480 .f32)
  (harg2 : arg2.IsWhole) (arg3 : Memref sig .tc .vmem S512x1 .i32) (harg3 : arg3.IsWhole) (x0 : Vec F S512x1 .f32) (x1 : Vec F S1x20480 .f32)

/-- The block of keys, as the kernel loads it. -/
abbrev keys : Vec F S512x1 .f32 :=
  arg1.view.readAt (Elt F) (Rect.unit (s := S512x1) ![0, 0] S512x1.size inb_S512x1_S512x1_0_0).toLoadRect (harg1.unread x0)

/-- A chunk of the row of keys, as the kernel loads it. -/
abbrev load (o : ℕ) (inb : ∀ a, (![0, o] : Fin 2 → ℕ) a + S1x2048.size a ≤ S1x20480.size a) : Vec F S1x2048 .f32 :=
  arg2.view.readAt (Elt F) (Rect.unit (s := S1x20480) ![0, o] S1x2048.size inb).toLoadRect (harg2.unread x1)

/-- The first number a branch stores. -/
abbrev first : IVec S512x1 32 :=
  chain i (keys arg1 harg1 x0)
    (load arg2 harg2 x1 0 inb_S1x20480_S1x2048_0_0)
    (load arg2 harg2 x1 2048 inb_S1x20480_S1x2048_0_2048)
    (load arg2 harg2 x1 4096 inb_S1x20480_S1x2048_0_4096)
    (load arg2 harg2 x1 6144 inb_S1x20480_S1x2048_0_6144)
    (load arg2 harg2 x1 8192 inb_S1x20480_S1x2048_0_8192)
    (load arg2 harg2 x1 10240 inb_S1x20480_S1x2048_0_10240)
    (load arg2 harg2 x1 12288 inb_S1x20480_S1x2048_0_12288)
    (load arg2 harg2 x1 14336 inb_S1x20480_S1x2048_0_14336)
    (load arg2 harg2 x1 16384 inb_S1x20480_S1x2048_0_16384)
    (load arg2 harg2 x1 18432 inb_S1x20480_S1x2048_0_18432)

/-- What the kernel loads of a block of keys is the block. -/
theorem keys_eq : keys arg1 harg1 x0 = x0 :=
  (View.readAt_full arg1.view (harg1.unread x0) inb_S512x1_S512x1_0_0).trans (harg1.read_unread x0)

/-- What the kernel loads of the row of keys at a chunk is the chunk. -/
theorem load_eq (j : ℕ) (h : j < 10) :
    load arg2 harg2 x1 (2048 * j) (chunk_in j h) = chunk x1 j h := by
  refine (View.readAt_unit arg2.view (harg2.unread x1) (chunk_in j h) rfl (chunk_in j h)).trans ?_
  rw [harg2.read_unread x1]
  rfl

/-- The first number stored is the ten chunks' lanes added up. -/
theorem first_eq : first i arg1 harg1 arg2 harg2 x0 x1 = total (upTo (k1_pay2 x0) (own i) x1 10 (Nat.le_refl 10)) := by
  refine Eq.trans ?_ (chain_eq i x0 x1)
  unfold first
  rw [keys_eq arg1 harg1 x0]
  congr 1
  all_goals first
    | exact load_eq arg2 harg2 x1 0 (by decide)
    | exact load_eq arg2 harg2 x1 1 (by decide)
    | exact load_eq arg2 harg2 x1 2 (by decide)
    | exact load_eq arg2 harg2 x1 3 (by decide)
    | exact load_eq arg2 harg2 x1 4 (by decide)
    | exact load_eq arg2 harg2 x1 5 (by decide)
    | exact load_eq arg2 harg2 x1 6 (by decide)
    | exact load_eq arg2 harg2 x1 7 (by decide)
    | exact load_eq arg2 harg2 x1 8 (by decide)
    | exact load_eq arg2 harg2 x1 9 (by decide)

/-- A branch's two stores, whatever the order of its words: what they leave. -/
theorem branch (j : ℕ) (h : j < 10) (g : Vec F S512x1 .i32 → Vec F S512x1 .i32) (hg : ∀ t, g t = addTies (k1_pay2 x0) (k1_pay3 i) (BitVec.ofNat 32 (2048 * j)) (chunk x1 j h) t) :
    VO1_2.read (Elt F) (VO1_2.writes (Elt F) VO1_2.junk
      [⟨Rect.unit ![0, 0] ![512, 1] inb_S512x1_S512x1_0_0, g (arg3.view.readCov [⟨Rect.unit ![0, 0] ![512, 1] inb_S512x1_S512x1_0_0, first i arg1 harg1 arg2 harg2 x0 x1⟩]
        (Rect.unit ![0, 0] S512x1.size inb_S512x1_S512x1_0_0).toLoadRect)⟩,
       ⟨Rect.unit ![0, 0] ![512, 1] inb_S512x1_S512x1_0_0, first i arg1 harg1 arg2 harg2 x0 x1⟩]) = ranks i j h x0 x1 := by
  refine (two_stores VO1_2 arg3.view g _).trans ?_
  rw [hg, first_eq]
  rfl

/-- The branch of the blocks in chunk 0. -/
theorem out_A (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i) (hc8 : ¬cond1_8 i) (hc9 : ¬cond1_9 i) :
    out1_A_2 c i arg1 harg1 arg2 harg2 arg3 harg3 hc0 hc1 hc2 hc3 hc4 hc5 hc6 hc7 hc8 hc9 x0 x1 = ranks i 0 (by decide) x0 x1 := by
  unfold out1_A_2 kernelRun1_A
  exact branch i arg1 harg1 arg2 harg2 arg3 x0 x1 0 (by decide)
    (fun t => k1_pay25 (k1_pay2 (keys arg1 harg1 x0)) (k1_pay3 i) (load arg2 harg2 x1 0 inb_S1x20480_S1x2048_0_0) t)
    (fun t => by rw [keys_eq arg1 harg1 x0, load_eq arg2 harg2 x1 0 (by decide)]; rfl)

/-- The branch of the blocks in chunk 1. -/
theorem out_B (hc0 : ¬cond1_0 i) (hc1 : cond1_1 i) (hc2 : ¬cond1_2 i) (hc3 : ¬cond1_3 i) (hc4 : ¬cond1_4 i) (hc5 : ¬cond1_5 i) (hc6 : ¬cond1_6 i) (hc7 : ¬cond1_7 i) (hc8 : ¬cond1_8 i) (hc9 : ¬cond1_9 i) :
    out1_B_2 c i arg1 harg1 arg2 harg2 arg3 harg3 hc0 hc1 hc2 hc3 hc4 hc5 hc6 hc7 hc8 hc9 x0 x1 = ranks i 1 (by decide) x0 x1 := by
  unfold out1_B_2 kernelRun1_B
  exact branch i arg1 harg1 arg2 harg2 arg3 x0 x1 1 (by decide)
    (fun t => k1_pay26 (k1_pay2 (keys arg1 harg1 x0)) (k1_pay3 i) (load arg2 harg2 x1 2048 inb_S1x20480_S1x2048_0_2048) t)
    (fun t => by rw [keys_eq arg1 harg1 x0, load_eq arg2 harg2 x1 1 (by decide)]; rfl)

/-- The branch of the blocks in chunk 2. -/
theorem out_C (hc0 : ¬cond1_0 i) (hc1 : ¬cond1_1 i) (hc2 : cond1_2 i) (hc3 : ¬cond1_3 i) (hc4 : ¬cond1_4 i) (hc5 : ¬cond1_5 i) (hc6 : ¬cond1_6 i) (hc7 : ¬cond1_7 i) (hc8 : ¬cond1_8 i) (hc9 : ¬cond1_9 i) :
    out1_C_2 c i arg1 harg1 arg2 harg2 arg3 harg3 hc0 hc1 hc2 hc3 hc4 hc5 hc6 hc7 hc8 hc9 x0 x1 = ranks i 2 (by decide) x0 x1 := by
  unfold out1_C_2 kernelRun1_C
  exact branch i arg1 harg1 arg2 harg2 arg3 x0 x1 2 (by decide)
    (fun t => k1_pay27 (k1_pay2 (keys arg1 harg1 x0)) (k1_pay3 i) (load arg2 harg2 x1 4096 inb_S1x20480_S1x2048_0_4096) t)
    (fun t => by rw [keys_eq arg1 harg1 x0, load_eq arg2 harg2 x1 2 (by decide)]; rfl)

/-- The branch of the blocks in chunk 3. -/
theorem out_D (hc0 : ¬cond1_0 i) (hc1 : ¬cond1_1 i) (hc2 : ¬cond1_2 i) (hc3 : cond1_3 i) (hc4 : ¬cond1_4 i) (hc5 : ¬cond1_5 i) (hc6 : ¬cond1_6 i) (hc7 : ¬cond1_7 i) (hc8 : ¬cond1_8 i) (hc9 : ¬cond1_9 i) :
    out1_D_2 c i arg1 harg1 arg2 harg2 arg3 harg3 hc0 hc1 hc2 hc3 hc4 hc5 hc6 hc7 hc8 hc9 x0 x1 = ranks i 3 (by decide) x0 x1 := by
  unfold out1_D_2 kernelRun1_D
  exact branch i arg1 harg1 arg2 harg2 arg3 x0 x1 3 (by decide)
    (fun t => k1_pay28 (k1_pay2 (keys arg1 harg1 x0)) (k1_pay3 i) (load arg2 harg2 x1 6144 inb_S1x20480_S1x2048_0_6144) t)
    (fun t => by rw [keys_eq arg1 harg1 x0, load_eq arg2 harg2 x1 3 (by decide)]; rfl)

/-- The branch of the blocks in chunk 4. -/
theorem out_E (hc0 : ¬cond1_0 i) (hc1 : ¬cond1_1 i) (hc2 : ¬cond1_2 i) (hc3 : ¬cond1_3 i) (hc4 : cond1_4 i) (hc5 : ¬cond1_5 i) (hc6 : ¬cond1_6 i) (hc7 : ¬cond1_7 i) (hc8 : ¬cond1_8 i) (hc9 : ¬cond1_9 i) :
    out1_E_2 c i arg1 harg1 arg2 harg2 arg3 harg3 hc0 hc1 hc2 hc3 hc4 hc5 hc6 hc7 hc8 hc9 x0 x1 = ranks i 4 (by decide) x0 x1 := by
  unfold out1_E_2 kernelRun1_E
  exact branch i arg1 harg1 arg2 harg2 arg3 x0 x1 4 (by decide)
    (fun t => k1_pay29 (k1_pay2 (keys arg1 harg1 x0)) (k1_pay3 i) (load arg2 harg2 x1 8192 inb_S1x20480_S1x2048_0_8192) t)
    (fun t => by rw [keys_eq arg1 harg1 x0, load_eq arg2 harg2 x1 4 (by decide)]; rfl)

/-- The branch of the blocks in chunk 5. -/
theorem out_F (hc0 : ¬cond1_0 i) (hc1 : ¬cond1_1 i) (hc2 : ¬cond1_2 i) (hc3 : ¬cond1_3 i) (hc4 : ¬cond1_4 i) (hc5 : cond1_5 i) (hc6 : ¬cond1_6 i) (hc7 : ¬cond1_7 i) (hc8 : ¬cond1_8 i) (hc9 : ¬cond1_9 i) :
    out1_F_2 c i arg1 harg1 arg2 harg2 arg3 harg3 hc0 hc1 hc2 hc3 hc4 hc5 hc6 hc7 hc8 hc9 x0 x1 = ranks i 5 (by decide) x0 x1 := by
  unfold out1_F_2 kernelRun1_F
  exact branch i arg1 harg1 arg2 harg2 arg3 x0 x1 5 (by decide)
    (fun t => k1_pay30 (k1_pay2 (keys arg1 harg1 x0)) (k1_pay3 i) (load arg2 harg2 x1 10240 inb_S1x20480_S1x2048_0_10240) t)
    (fun t => by rw [keys_eq arg1 harg1 x0, load_eq arg2 harg2 x1 5 (by decide)]; rfl)

/-- The branch of the blocks in chunk 6. -/
theorem out_G (hc0 : ¬cond1_0 i) (hc1 : ¬cond1_1 i) (hc2 : ¬cond1_2 i) (hc3 : ¬cond1_3 i) (hc4 : ¬cond1_4 i) (hc5 : ¬cond1_5 i) (hc6 : cond1_6 i) (hc7 : ¬cond1_7 i) (hc8 : ¬cond1_8 i) (hc9 : ¬cond1_9 i) :
    out1_G_2 c i arg1 harg1 arg2 harg2 arg3 harg3 hc0 hc1 hc2 hc3 hc4 hc5 hc6 hc7 hc8 hc9 x0 x1 = ranks i 6 (by decide) x0 x1 := by
  unfold out1_G_2 kernelRun1_G
  exact branch i arg1 harg1 arg2 harg2 arg3 x0 x1 6 (by decide)
    (fun t => k1_pay31 (k1_pay2 (keys arg1 harg1 x0)) (k1_pay3 i) (load arg2 harg2 x1 12288 inb_S1x20480_S1x2048_0_12288) t)
    (fun t => by rw [keys_eq arg1 harg1 x0, load_eq arg2 harg2 x1 6 (by decide)]; rfl)

/-- The branch of the blocks in chunk 7. -/
theorem out_H (hc0 : ¬cond1_0 i) (hc1 : ¬cond1_1 i) (hc2 : ¬cond1_2 i) (hc3 : ¬cond1_3 i) (hc4 : ¬cond1_4 i) (hc5 : ¬cond1_5 i) (hc6 : ¬cond1_6 i) (hc7 : cond1_7 i) (hc8 : ¬cond1_8 i) (hc9 : ¬cond1_9 i) :
    out1_H_2 c i arg1 harg1 arg2 harg2 arg3 harg3 hc0 hc1 hc2 hc3 hc4 hc5 hc6 hc7 hc8 hc9 x0 x1 = ranks i 7 (by decide) x0 x1 := by
  unfold out1_H_2 kernelRun1_H
  exact branch i arg1 harg1 arg2 harg2 arg3 x0 x1 7 (by decide)
    (fun t => k1_pay32 (k1_pay2 (keys arg1 harg1 x0)) (k1_pay3 i) (load arg2 harg2 x1 14336 inb_S1x20480_S1x2048_0_14336) t)
    (fun t => by rw [keys_eq arg1 harg1 x0, load_eq arg2 harg2 x1 7 (by decide)]; rfl)

/-- The branch of the blocks in chunk 8. -/
theorem out_I (hc0 : ¬cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i) (hc8 : cond1_8 i) (hc9 : ¬cond1_9 i) :
    out1_I_2 c i arg1 harg1 arg2 harg2 arg3 harg3 hc0 hc1 hc2 hc3 hc4 hc5 hc6 hc7 hc8 hc9 x0 x1 = ranks i 8 (by decide) x0 x1 := by
  unfold out1_I_2 kernelRun1_I
  exact branch i arg1 harg1 arg2 harg2 arg3 x0 x1 8 (by decide)
    (fun t => k1_pay33 (k1_pay2 (keys arg1 harg1 x0)) (k1_pay3 i) (load arg2 harg2 x1 16384 inb_S1x20480_S1x2048_0_16384) t)
    (fun t => by rw [keys_eq arg1 harg1 x0, load_eq arg2 harg2 x1 8 (by decide)]; rfl)

/-- The branch of the blocks in chunk 9. -/
theorem out_J (hc0 : ¬cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i) (hc8 : ¬cond1_8 i) (hc9 : cond1_9 i) :
    out1_J_2 c i arg1 harg1 arg2 harg2 arg3 harg3 hc0 hc1 hc2 hc3 hc4 hc5 hc6 hc7 hc8 hc9 x0 x1 = ranks i 9 (by decide) x0 x1 := by
  unfold out1_J_2 kernelRun1_J
  exact branch i arg1 harg1 arg2 harg2 arg3 x0 x1 9 (by decide)
    (fun t => k1_pay1 (k1_pay2 (keys arg1 harg1 x0)) (k1_pay3 i) (load arg2 harg2 x1 18432 inb_S1x20480_S1x2048_0_18432) t)
    (fun t => by rw [keys_eq arg1 harg1 x0, load_eq arg2 harg2 x1 9 (by decide)]; rfl)

end Cert.SortIdeal.Rank

end
-- ==== Proof.Sorting.Ranked.lean ====
/-
  What the first two regions leave: the row of keys as it was, and, of every key, how many keys go before it.
-/
module

public import proofs.«01_k».proof.Proof.Sorting.Count
public import proofs.«01_k».proof.Proof.Sorting.Branches
public import proofs.«01_k».proof.Proof.Gen.SortIdeal.Frame
public import Idealize.ShloMosaic.Lib.Pipeline.ValueKit

@[expose] public section

set_option maxRecDepth 16384

noncomputable section

namespace Cert.SortIdeal.Rank

open Cert.SortIdeal Cert.SortIdeal.Gen Cert.Standing
open Idealize.ShloMosaic Idealize.ShloMosaic.TcCoe Idealize.ShloMosaic.Pointwise
open Idealize.ShloMosaic.Pipeline (Dat Cfg Window)

section Branch
variable {F : FTy → Type} [FloatOps F]
variable (V : (c : Dev nD) → (b : Ref sig .tc) → Buf (Elt F) ((c : Thread nD τ).loc b))

/-- What the body leaves at a point is `ranks` of its blocks, the chunk the one the block lies in. -/
theorem outs_eq (c : Dev nD) (t : Fin cfg1.N) (hd : t.val / 4 < 10) :
    outsAt1 V c t.val t.isLt = ranks (grid1.coords t) (t.val / 4) hd (iblk1 V c 0 t) (iblk1 V c 1 t) := by
  have ht : t.val < 40 := t.isLt
  have step : ∀ (n : ℕ) (h' : n < 10), t.val / 4 = n → ranks (grid1.coords t) n h' (iblk1 V c 0 t) (iblk1 V c 1 t)
      = ranks (grid1.coords t) (t.val / 4) hd (iblk1 V c 0 t) (iblk1 V c 1 t) := by rintro n h' rfl; rfl
  rcases (by omega : t.val / 4 = 0 ∨ t.val / 4 = 1 ∨ t.val / 4 = 2 ∨ t.val / 4 = 3 ∨ t.val / 4 = 4 ∨ t.val / 4 = 5 ∨ t.val / 4 = 6 ∨ t.val / 4 = 7
      ∨ t.val / 4 = 8 ∨ t.val / 4 = 9) with h | h | h | h | h | h | h | h | h | h
  · exact (outsAt1_A V c t (by omega) (by omega) (by omega) (by omega) (by omega) (by omega) (by omega) (by omega) (by omega) (by omega)).trans ((out_A ..).trans (step 0 _ h))
  · exact (outsAt1_B V c t (by omega) (by omega) (by omega) (by omega) (by omega) (by omega) (by omega) (by omega) (by omega) (by omega)).trans ((out_B ..).trans (step 1 _ h))
  · exact (outsAt1_C V c t (by omega) (by omega) (by omega) (by omega) (by omega) (by omega) (by omega) (by omega) (by omega) (by omega)).trans ((out_C ..).trans (step 2 _ h))
  · exact (outsAt1_D V c t (by omega) (by omega) (by omega) (by omega) (by omega) (by omega) (by omega) (by omega) (by omega) (by omega)).trans ((out_D ..).trans (step 3 _ h))
  · exact (outsAt1_E V c t (by omega) (by omega) (by omega) (by omega) (by omega) (by omega) (by omega) (by omega) (by omega) (by omega)).trans ((out_E ..).trans (step 4 _ h))
  · exact (outsAt1_F V c t (by omega) (by omega) (by omega) (by omega) (by omega) (by omega) (by omega) (by omega) (by omega) (by omega)).trans ((out_F ..).trans (step 5 _ h))
  · exact (outsAt1_G V c t (by omega) (by omega) (by omega) (by omega) (by omega) (by omega) (by omega) (by omega) (by omega) (by omega)).trans ((out_G ..).trans (step 6 _ h))
  · exact (outsAt1_H V c t (by omega) (by omega) (by omega) (by omega) (by omega) (by omega) (by omega) (by omega) (by omega) (by omega)).trans ((out_H ..).trans (step 7 _ h))
  · exact (outsAt1_I V c t (by omega) (by omega) (by omega) (by omega) (by omega) (by omega) (by omega) (by omega) (by omega) (by omega)).trans ((out_I ..).trans (step 8 _ h))
  · exact (outsAt1_J V c t (by omega) (by omega) (by omega) (by omega) (by omega) (by omega) (by omega) (by omega) (by omega) (by omega)).trans ((out_J ..).trans (step 9 _ h))

end Branch

/-- The blocks' places, and the grid's coordinate. -/
theorem coord1 : ∀ t : Fin cfg1.N, (grid1.coords t 0).val = t.val := (by decide +kernel : ∀ t : Fin grid1.N, (grid1.coords t 0).val = t.val)
theorem index1_0 : ∀ t : Fin cfg1.N, win1_0.index t = ![t.val, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![t.val, 0] := (by decide +kernel : ∀ t : Fin grid1.N, _)

variable (V : (c : Dev nD) → (b : Ref sig .tc) → Buf (Elt Ideal) ((c : Thread nD τ).loc b))

/-- The ranking leaves, at every key of the column, how many keys of the row go before it, if column and row are the same
    keys `s`. -/
theorem rank_array (c : Dev nD) (s : Fin 20480 → EReal)
    (hcol : ∀ p : Fin 20480, (V c main_v2 : Vec Ideal S20480x1 .f32) (ix2 p 0) = s p)
    (hrow : ∀ p : Fin 20480, (V c main_v4 : Vec Ideal S1x20480 .f32) (ix2 0 p) = s p) :
    (dat1 V c).arrAt 2 cfg1.N = ((fun j => BitVec.ofNat 32 (place s (j 0))) : Vec Ideal S20480x1 .i32) := by
  refine (dat1 V c).arrAt_eq_of_covers 2 _ (by decide +kernel) fun t hf y => ?_
  blk_simp
  rw [after1_2, outs_eq V c t (by have : t.val < 40 := t.isLt; omega)]
  have ht : t.val < 40 := t.isLt
  have col : ∀ r : Fin 512, ∀ p : Fin 20480, p.val = 512 * t.val + r.val → iblk1 V c 0 t (ix2 r 0) = s p := fun r p hp => by
    unfold iblk1
    blk_simp
    refine Eq.trans (congrArg _ ?_) (hcol p)
    blk_ext [index1_0]
  have row : ∀ k : Fin 20480, iblk1 V c 1 t (ix2 0 k) = s k := fun k => by
    unfold iblk1
    blk_simp
    refine Eq.trans (congrArg _ ?_) (hrow k)
    blk_ext [index1_1]
  have hy : y = ix2 (y 0) 0 := by
    have h1 : (y 1).val < 1 := (y 1).isLt
    funext a
    refine Fin.ext ?_
    match a with
    | ⟨0, _⟩ => rfl
    | ⟨1, _⟩ => show (y 1).val = 0; omega
  have hp : (((win1_2.blk t).view.emb y 0 : Fin 20480)).val = 512 * t.val + (y 0).val := by
    blk_simp [index1_2]
    omega
  rw [hy]
  refine (ranks_apply (grid1.coords t) _ _ (by rw [coord1]) (iblk1 V c 0 t) (iblk1 V c 1 t) (y 0) ((win1_2.blk t).view.emb y 0) (by rw [coord1]; exact hp)
    ((col _ _ hp).trans (row _).symm)).trans ?_
  rw [← hy]
  exact congrArg (fun f => BitVec.ofNat 32 (place f ((win1_2.blk t).view.emb y 0))) (funext row)

/-- The first region leaves the row as it was. -/
theorem key_array (c : Dev nD) : (dat0 V c).arrAt 1 cfg0.N = V c main_v3 := by
  refine (dat0 V c).arrAt_eq_of_covers 1 _ (by decide +kernel) fun t hf y => ?_
  blk_simp
  rw [after0_1]
  frame_out
  have e : k0_pay1 (iblk0 V c 0 t) = iblk0 V c 0 t := by
    unfold k0_pay1
    exact shapeCast_self _ _
  rw [e]
  unfold iblk0
  blk_simp
  exact congrArg (V c main_v3) rfl

end Cert.SortIdeal.Rank

end
-- ==== Proof.Sorting.Select.lean ====
/-
  The selection's words: each chunk of 2048 keys adds, to every output row's sums, the rows of the table whose key's number is
  that row, each row split into three addends; the three sums are added at the end.
-/
module

public import proofs.«01_k».proof.Proof.Gen.SortIdeal.Frame
public import Idealize.ShloMosaic.Lib.Pipeline.ValueKit

@[expose] public section

set_option maxRecDepth 16384

noncomputable section

namespace Cert.SortIdeal.Rank

open Cert.SortIdeal Cert.SortIdeal.Gen
open Idealize.ShloMosaic Idealize.ShloMosaic.TcCoe

variable {F : FTy → Type} [FloatOps F]

/-- One where a key's number is the output row. -/
def hits (w : IVec S512x1 32) (q : Vec F S1x2048 .i32) : FVec F S512x2048 .bf16 :=
  truncf .bf16 (sitofp .f32 (extui 32 (cmpi .eq (broadcastTo S512x2048 (shapeCast S1x2048 q shapeCasts_S1x2048_S1x2048) broadcasts_S1x2048_S512x2048)
    (broadcastTo S512x2048 w broadcasts_S512x1_S512x2048)) natLt_1_32)) bitsLt_bf16_f32

/-- The table's rows, each split into three addends side by side. -/
def split (d : Vec F S2048x8 .f32) : FVec F S2048x24 .bf16 :=
  have a : FVec F S2048x8 .f32 := shapeCast S2048x8 d shapeCasts_S2048x8_S2048x8
  have b : FVec F S2048x8 .f32 := subf a (extf .f32 (truncf .bf16 a bitsLt_bf16_f32) bitsLt_bf16_f32)
  have c : FVec F S2048x8 .f32 := subf b (extf .f32 (truncf .bf16 b bitsLt_bf16_f32) bitsLt_bf16_f32)
  concatenate S2048x24 1 [⟨S2048x8, truncf .bf16 a bitsLt_bf16_f32⟩, ⟨S2048x8, truncf .bf16 b bitsLt_bf16_f32⟩, ⟨S2048x8, truncf .bf16 c bitsLt_bf16_f32⟩]
    concatenates_S2048x8_S2048x8_S2048x8_S2048x24_d1

/-- A chunk's rows added to the sums. -/
def add (w : IVec S512x1 32) (acc : FVec F S512x24 .f32) (q : Vec F S1x2048 .i32) (d : Vec F S2048x8 .f32) : FVec F S512x24 .f32 :=
  addf acc (matmul dot_S512x2048_S2048x24_S512x24_1_0_0_1_n_n none (hits w q) (split d) (constant S512x24 .f32 0x00000000#32))

/-- The three sums of a row added. -/
def join (s : FVec F S512x24 .f32) : FVec F S512x8 .f32 :=
  addf (addf (extractStridedSlice S512x8 ![0, 0] s slices_S512x24_o0_0_S512x8) (extractStridedSlice S512x8 ![0, 8] s slices_S512x24_o0_8_S512x8))
    (extractStridedSlice S512x8 ![0, 16] s slices_S512x24_o0_16_S512x8)

/-- A chunk of the numbers and a chunk of the table lie in the arrays. -/
theorem num_in (j : ℕ) (h : j < 10) : ∀ a, (![0, 2048 * j] : Fin 2 → ℕ) a + S1x2048.size a ≤ S1x20480.size a := fun a => by
  match a with
  | ⟨0, _⟩ => exact Nat.le_refl 1
  | ⟨1, _⟩ => show 2048 * j + 2048 ≤ 20480; omega
theorem row_in (j : ℕ) (h : j < 10) : ∀ a, (![2048 * j, 0] : Fin 2 → ℕ) a + S2048x8.size a ≤ S20480x8.size a := fun a => by
  match a with
  | ⟨0, _⟩ => show 2048 * j + 2048 ≤ 20480; omega
  | ⟨1, _⟩ => exact Nat.le_refl 8

/-- A chunk of the numbers, and of the table. -/
def nums (x0 : Vec F S1x20480 .i32) (j : ℕ) (h : j < 10) : Vec F S1x2048 .i32 :=
  View.ld x0 (Rect.unit (s := S1x20480) ![0, 2048 * j] S1x2048.size (num_in j h))
def rows (x1 : Vec F S20480x8 .f32) (j : ℕ) (h : j < 10) : Vec F S2048x8 .f32 :=
  View.ld x1 (Rect.unit (s := S20480x8) ![2048 * j, 0] S2048x8.size (row_in j h))

/-- The sums after the first `n` chunks. -/
def sums (w : IVec S512x1 32) (x0 : Vec F S1x20480 .i32) (x1 : Vec F S20480x8 .f32) : (n : ℕ) → n ≤ 10 → FVec F S512x24 .f32
  | 0, _ => broadcast S512x24 (Scalar.ofBits .f32 0x00000000#32 : F .f32)
  | n + 1, h => add w (sums w x0 x1 n (Nat.le_of_succ_le h)) (nums x0 n h) (rows x1 n h)

/-- The printed payloads are these sums, chunk after chunk. -/
theorem pay3 (i : grid2.Coords) (q q' : Vec F S1x2048 .i32) (d d' : Vec F S2048x8 .f32) :
    k2_pay3 i q d q' d' = add (k2_pay2 i) (add (k2_pay2 i) (broadcast S512x24 (Scalar.ofBits .f32 0x00000000#32 : F .f32)) q d) q' d' := rfl
theorem pay4 (w : IVec S512x1 32) (s : FVec F S512x24 .f32) (q q' : Vec F S1x2048 .i32) (d d' : Vec F S2048x8 .f32) :
    k2_pay4 w s q d q' d' = add w (add w s q d) q' d' := rfl
theorem pay6 (w : IVec S512x1 32) (s : FVec F S512x24 .f32) (q q' : Vec F S1x2048 .i32) (d d' : Vec F S2048x8 .f32) :
    k2_pay6 w s (k2_pay5 w q) d q' d' = add w (add w s q d) q' d' := rfl
theorem pay9 (w : IVec S512x1 32) (s : FVec F S512x24 .f32) (q q' q'' : Vec F S1x2048 .i32) (d d' d'' : Vec F S2048x8 .f32) :
    k2_pay9 w s (k2_pay7 w q) (k2_pay8 d) q' d' q'' d'' = add w (add w (add w s q d) q' d') q'' d'' := rfl
theorem pay1 (w : IVec S512x1 32) (s : FVec F S512x24 .f32) (q : Vec F S1x2048 .i32) (d : Vec F S2048x8 .f32) :
    k2_pay1 s (k2_pay10 w q) d = join (add w s q d) := rfl

/-- What the selection's body leaves at a point. -/
theorem out_eq (i : grid2.Coords) (x0 : Vec F S1x20480 .i32) (x1 : Vec F S20480x8 .f32) :
    out2_2 i x0 x1 = join (sums (k2_pay2 i) x0 x1 10 (Nat.le_refl 10)) := by
  frame_out
  unfold k2_pay11
  rw [pay3, pay4, pay6, pay9, pay1]
  rfl

end Cert.SortIdeal.Rank

end
-- ==== Proof.Sorting.Pick.lean ====
/-
  The selection over the extended reals: if exactly one key has an output row's number, the row is that key's row of the
  table. The three addends of an entry below plus infinity add up to the entry.
-/
module

public import proofs.«01_k».proof.Proof.Sorting.Select
public import proofs.«01_k».proof.Proof.Value.Bits
public import Idealize.ShloMosaic.Lib.Pointwise

@[expose] public section

set_option maxRecDepth 16384

noncomputable section

namespace Cert.SortIdeal.Rank

open Cert.SortIdeal Cert.SortIdeal.Gen Cert.Truth
open Idealize.ShloMosaic Idealize.ShloMosaic.TcCoe Idealize.ShloMosaic.Pointwise

/-- An addend of a row of the table: the entry, what is left of it, and what is left of that. -/
theorem split_0 (d : Vec Ideal S2048x8 .f32) (l : Fin 2048) (k : Fin 8) : split d (ix2 l ⟨k.val, by omega⟩) = d (ix2 l k) := by
  pointwise [split]
theorem split_1 (d : Vec Ideal S2048x8 .f32) (l : Fin 2048) (k : Fin 8) :
    split d (ix2 l ⟨8 + k.val, by omega⟩) = d (ix2 l k) - d (ix2 l k) := by
  pointwise [split]
theorem split_2 (d : Vec Ideal S2048x8 .f32) (l : Fin 2048) (k : Fin 8) :
    split d (ix2 l ⟨16 + k.val, by omega⟩) = (d (ix2 l k) - d (ix2 l k)) - (d (ix2 l k) - d (ix2 l k)) := by
  pointwise [split]
  rw [dif_neg (by omega), dif_neg (by omega)]
  have e : (⟨16 + k.val - 8 - 8, by omega⟩ : Fin 8) = k := Fin.ext (by show 16 + k.val - 8 - 8 = k.val; omega)
  rw [e]

/-- Whether a key's number is the output row. -/
theorem hits_apply (w : IVec S512x1 32) (q : Vec Ideal S1x2048 .i32) (r : Fin 512) (l : Fin 2048) :
    hits (F := Ideal) w q (ix2 r l) = bit (q (ix2 0 l) = w (ix2 r 0)) := by
  pointwise [hits]
  rw [sitofp_bit]
  refine bit_congr ?_
  show BitVec.ofBool (q (ix2 0 l) == w (ix2 r 0)) = 1#1 ↔ _
  rw [ofBool_one, beq_iff_eq]

/-- A chunk's addition to a sum. -/
theorem add_apply (w : IVec S512x1 32) (acc : FVec Ideal S512x24 .f32) (q : Vec Ideal S1x2048 .i32) (d : Vec Ideal S2048x8 .f32) (r : Fin 512) (k : Fin 24) :
    add w acc q d (ix2 r k) = acc (ix2 r k) + ∑ l : Fin 2048, bit (q (ix2 0 l) = w (ix2 r 0)) * split d (ix2 l k) := by
  unfold add
  pointwise
  simp only [hits_apply]

/-- The three sums of a row, added. -/
theorem join_apply (s : FVec Ideal S512x24 .f32) (r : Fin 512) (k : Fin 8) :
    join s (ix2 r k) = s (ix2 r ⟨k.val, by omega⟩) + s (ix2 r ⟨8 + k.val, by omega⟩) + s (ix2 r ⟨16 + k.val, by omega⟩) := by
  pointwise [join]

/-- A chunk of the numbers, of the table. -/
theorem nums_apply (x0 : Vec Ideal S1x20480 .i32) (j : ℕ) (h : j < 10) (l : Fin 2048) :
    nums x0 j h (ix2 0 l) = x0 (ix2 0 ⟨2048 * j + l.val, by omega⟩) := by
  unfold nums
  refine (View.ld_apply x0 _ _).trans (congrArg x0 ?_)
  funext a
  refine Fin.ext ?_
  match a with
  | ⟨0, _⟩ => rfl
  | ⟨1, _⟩ => show 2048 * j + 1 * l.val = _; simp
theorem rows_apply (x1 : Vec Ideal S20480x8 .f32) (j : ℕ) (h : j < 10) (l : Fin 2048) (k : Fin 8) :
    rows x1 j h (ix2 l k) = x1 (ix2 ⟨2048 * j + l.val, by omega⟩ k) := by
  unfold rows
  refine (View.ld_apply x1 _ _).trans (congrArg x1 ?_)
  funext a
  refine Fin.ext ?_
  match a with
  | ⟨0, _⟩ => show 2048 * j + 1 * l.val = _; simp
  | ⟨1, _⟩ => show 0 + 1 * k.val = k.val; omega

/-- An output row's sums after `n` chunks: the addend of the one key that has the row's number, once its chunk is passed. -/
theorem sums_apply (w : IVec S512x1 32) (x0 : Vec Ideal S1x20480 .i32) (x1 : Vec Ideal S20480x8 .f32) (r : Fin 512) (js : Fin 20480)
    (hj : ∀ j : Fin 20480, x0 (ix2 0 j) = w (ix2 r 0) ↔ j = js) (k : Fin 24) :
    ∀ (n : ℕ) (h : n ≤ 10), sums w x0 x1 n h (ix2 r k)
      = if js.val / 2048 < n then split (rows x1 (js.val / 2048) (by have := js.isLt; omega)) (ix2 ⟨js.val % 2048, Nat.mod_lt _ (by decide)⟩ k) else 0
  | 0, _ => by
    unfold sums
    rw [if_neg (Nat.not_lt_zero _)]
    pointwise
  | n + 1, h => by
    have hlt := js.isLt
    unfold sums
    rw [add_apply, sums_apply w x0 x1 r js hj k n _]
    have hit : ∀ l : Fin 2048, (nums x0 n h (ix2 0 l) = w (ix2 r 0)) ↔ 2048 * n + l.val = js.val := fun l => by
      rw [nums_apply, hj, Fin.ext_iff]
    by_cases hn : js.val / 2048 = n
    · subst hn
      rw [if_neg (by omega), if_pos (by omega), zero_add, Finset.sum_eq_single (⟨js.val % 2048, Nat.mod_lt _ (by decide)⟩ : Fin 2048)]
      · rw [bit_true ((hit _).mpr (by show 2048 * (js.val / 2048) + js.val % 2048 = js.val; omega)), one_mul]
      · intro l _ hl
        rw [bit_false (fun g => hl (Fin.ext (by have := (hit l).mp g; show l.val = js.val % 2048; omega))), zero_mul]
      · exact fun g => absurd (Finset.mem_univ _) g
    · rw [Finset.sum_eq_zero fun l _ => by rw [bit_false (fun g => hn (by have := (hit l).mp g; omega)), zero_mul], add_zero]
      by_cases hl : js.val / 2048 < n
      · rw [if_pos hl, if_pos (by omega)]
      · rw [if_neg hl, if_neg (by omega)]

/-- An entry below plus infinity is the sum of its three addends. -/
theorem three (x : EReal) (h : x ≠ ⊤) : x + (x - x) + ((x - x) - (x - x)) = x := by
  induction x with
  | bot => simp
  | top => exact absurd rfl h
  | coe a =>
    rw [← EReal.coe_sub, sub_self, EReal.coe_zero, sub_zero, add_zero, add_zero]

/-- The output row's number. -/
theorem row_word (i : grid2.Coords) (r : Fin 512) : k2_pay2 i (ix2 r 0) = BitVec.ofNat 32 (512 * (i 0).val + r.val) := by
  pointwise [k2_pay2]
  have e : Scalar.muli (BitVec.ofNat 32 (i 0).val) 512#32 = BitVec.ofNat 32 ((i 0).val * 512) := (BitVec.ofNat_mul (i 0).val 512).symm
  rw [e, Nat.mul_comm]
  exact (BitVec.ofNat_add _ _).symm

/-- The selection: an output row is the row of the table of the one key that has its number. -/
theorem pick (i : grid2.Coords) (x0 : Vec Ideal S1x20480 .i32) (x1 : Vec Ideal S20480x8 .f32) (r : Fin 512) (k : Fin 8) (js : Fin 20480)
    (hj : ∀ j : Fin 20480, x0 (ix2 0 j) = BitVec.ofNat 32 (512 * (i 0).val + r.val) ↔ j = js) (hx : x1 (ix2 js k) ≠ ⊤) :
    out2_2 i x0 x1 (ix2 r k) = x1 (ix2 js k) := by
  have hlt : js.val / 2048 < 10 := by have := js.isLt; omega
  have hj' : ∀ j : Fin 20480, x0 (ix2 0 j) = k2_pay2 i (ix2 r 0) ↔ j = js := fun j => by rw [row_word]; exact hj j
  have e : rows x1 (js.val / 2048) hlt (ix2 ⟨js.val % 2048, Nat.mod_lt _ (by decide)⟩ k) = x1 (ix2 js k) := by
    rw [rows_apply]
    refine congrArg (fun j => x1 (ix2 j k)) (Fin.ext ?_)
    show 2048 * (js.val / 2048) + js.val % 2048 = js.val
    omega
  rw [out_eq, join_apply]
  simp only [sums_apply _ x0 x1 r js hj', if_pos hlt]
  rw [split_0, split_1, split_2, e]
  exact three _ hx

end Cert.SortIdeal.Rank

end
-- ==== Proof.Sorting.Stage.lean ====
/-
  What the sorting program's result array holds: row `p` is the row of boxes and score that exactly `p` scores go before.
-/
module

public import proofs.«01_k».proof.Proof.Sorting.Ranked
public import proofs.«01_k».proof.Proof.Sorting.Pick
public import proofs.«01_k».proof.Proof.Sorting.Order

@[expose] public section

set_option maxRecDepth 16384

noncomputable section

namespace Cert.SortIdeal.Rank

open Cert.SortIdeal Cert.SortIdeal.Gen Cert.Standing
open Idealize.ShloMosaic Idealize.ShloMosaic.TcCoe Idealize.ShloMosaic.Pointwise
open Idealize.ShloMosaic.Pipeline (Dat Cfg Window)

variable (m : (ℓ : Loc nD τ sig) → Buf (Elt Ideal) ℓ) (ρ : Dev nD → PrngReg)

/-- The boxes, and the scores. -/
abbrev boxes (c : Dev nD) : Vec Ideal S20000x4 .f32 := m ((c : Thread nD τ).loc main_arg0)
abbrev scores (c : Dev nD) : Vec Ideal S20000 .f32 := m ((c : Thread nD τ).loc main_arg1)

/-- The keys: the scores, then minus one. -/
def padded (c : Dev nD) (p : Fin 20480) : EReal := if h : p.val < 20000 then scores m c (ix1 ⟨p.val, h⟩) else -1

theorem v1_read (c : Dev nD) : W1 m ρ c (Proc.devRef .tc main_v1) = (concatenate S20480 0 [⟨S20000, scores m c⟩, ⟨S480, (broadcastInDim S480 ![] bcast_S_S480 (constant (F := Ideal) S_ .f32 0xBF800000#32) : FVec Ideal S480 .f32)⟩] concatenates_S20000_S480_S20480_d0 : FVec Ideal S20480 .f32) := by
  show StableHlo.after hostOps0 (W0 m ρ c) (Proc.devRef .tc main_v1) = _
  entry_read
  rfl
theorem v2_read (c : Dev nD) : W1 m ρ c (Proc.devRef .tc main_v2) = (shapeCast S20480x1 (concatenate S20480 0 [⟨S20000, scores m c⟩, ⟨S480, (broadcastInDim S480 ![] bcast_S_S480 (constant (F := Ideal) S_ .f32 0xBF800000#32) : FVec Ideal S480 .f32)⟩] concatenates_S20000_S480_S20480_d0 : FVec Ideal S20480 .f32) shapeCasts_S20480_S20480x1 : FVec Ideal S20480x1 .f32) := by
  show StableHlo.after hostOps0 (W0 m ρ c) (Proc.devRef .tc main_v2) = _
  entry_read
  rfl
theorem v3_read (c : Dev nD) : W1 m ρ c (Proc.devRef .tc main_v3) = (shapeCast S1x20480 (concatenate S20480 0 [⟨S20000, scores m c⟩, ⟨S480, (broadcastInDim S480 ![] bcast_S_S480 (constant (F := Ideal) S_ .f32 0xBF800000#32) : FVec Ideal S480 .f32)⟩] concatenates_S20000_S480_S20480_d0 : FVec Ideal S20480 .f32) shapeCasts_S20480_S1x20480 : FVec Ideal S1x20480 .f32) := by
  show StableHlo.after hostOps0 (W0 m ρ c) (Proc.devRef .tc main_v3) = _
  entry_read
  rfl

theorem minus_one : (Ideal.ofBits .f32 0xBF800000#32 : EReal) = -1 := by
  rw [show (-1 : EReal) = ((-(1 : ℝ) : ℝ) : EReal) by rw [EReal.coe_neg, EReal.coe_one]]
  simp [Ideal.ofBits, Ideal.ieee, -EReal.coe_mul, -EReal.coe_neg]
  norm_num

theorem v2_apply (c : Dev nD) (p : Fin 20480) : (W1 m ρ c (Proc.devRef .tc main_v2) : Vec Ideal S20480x1 .f32) (ix2 p 0) = padded m c p := by
  rw [v2_read]
  pointwise
  unfold padded
  rw [minus_one]
theorem v3_apply (c : Dev nD) (p : Fin 20480) : (W1 m ρ c (Proc.devRef .tc main_v3) : Vec Ideal S1x20480 .f32) (ix2 0 p) = padded m c p := by
  rw [v3_read]
  pointwise
  unfold padded
  rw [minus_one]

/-- The ranking's array. -/
theorem v5_read (c : Dev nD) : W3 m ρ c (Proc.devRef .tc main_v5) = ((fun j => BitVec.ofNat 32 (place (padded m c) (j 0))) : Vec Ideal S20480x1 .i32) := by
  refine (W3_arr m ρ c 2).trans (rank_array (V2 m ρ) c (padded m c) (fun p => ?_) (fun p => ?_))
  · refine Eq.trans ?_ (v2_apply m ρ c p)
    exact congrFun (W2_of m ρ c main_v2 (by decide)) (ix2 p 0)
  · refine Eq.trans ?_ (v3_apply m ρ c p)
    exact congrFun ((W2_arr m ρ c 1).trans (key_array (V1 m ρ) c)) (ix2 0 p)

/-- The arguments at the third region. -/
theorem arg0_read (c : Dev nD) : W3 m ρ c (Proc.devRef .tc main_arg0) = boxes m c := W3_args m ρ c main_arg0 (by decide)
theorem arg1_read (c : Dev nD) : W3 m ρ c (Proc.devRef .tc main_arg1) = scores m c := W3_args m ρ c main_arg1 (by decide)

theorem v11_apply (c : Dev nD) (p : Fin 20480) : (W4 m ρ c (Proc.devRef .tc main_v11) : Vec Ideal S1x20480 .i32) (ix2 0 p) = BitVec.ofNat 32 (place (padded m c) p) := by
  have e : W4 m ρ c (Proc.devRef .tc main_v11) = (shapeCast S1x20480 (W3 m ρ c (Proc.devRef .tc main_v5) : Vec Ideal S20480x1 .i32) shapeCasts_S20480x1_S1x20480 : Vec Ideal S1x20480 .i32) := by
    show StableHlo.after hostOps2 (W3 m ρ c) (Proc.devRef .tc main_v11) = _
    entry_read
    rfl
  rw [e, v5_read]
  pointwise

/-- The table, from the boxes and the scores. -/
theorem table_read (σ : Valuation τ sig (Elt Ideal)) : StableHlo.after hostOps2 σ (Proc.devRef .tc main_v10)
    = (concatenate S20480x8 0 [⟨S20000x8, (concatenate S20000x8 1 [⟨S20000x4, (σ (Proc.devRef .tc main_arg0) : Vec Ideal S20000x4 .f32)⟩, ⟨S20000x1, (broadcastInDim S20000x1 ![0] bcast_S20000_S20000x1_0 (σ (Proc.devRef .tc main_arg1) : Vec Ideal S20000 .f32))⟩, ⟨S20000x3, (broadcastInDim S20000x3 ![] bcast_S_S20000x3 (constant (F := Ideal) S_ .f32 0x00000000#32) : FVec Ideal S20000x3 .f32)⟩] concatenates_S20000x4_S20000x1_S20000x3_S20000x8_d1 : FVec Ideal S20000x8 .f32)⟩, ⟨S480x8, (broadcastInDim S480x8 ![] bcast_S_S480x8 (constant (F := Ideal) S_ .f32 0x00000000#32) : FVec Ideal S480x8 .f32)⟩] concatenates_S20000x8_S480x8_S20480x8_d0 : FVec Ideal S20480x8 .f32) := by
  after_results
  rfl

theorem v10_apply (c : Dev nD) (p : Fin 20480) (k : Fin 8) (h : p.val < 20000) : (W4 m ρ c (Proc.devRef .tc main_v10) : Vec Ideal S20480x8 .f32) (ix2 p k)
    = if h4 : k.val < 4 then boxes m c (ix2 ⟨p.val, h⟩ ⟨k.val, h4⟩) else if k.val - 4 < 1 then scores m c (ix1 ⟨p.val, h⟩) else 0 := by
  have e : W4 m ρ c (Proc.devRef .tc main_v10) = _ := table_read (W3 m ρ c)
  rw [e, arg0_read, arg1_read]
  generalize boxes m c = B
  generalize scores m c = S
  pointwise
  rw [dif_pos h]
  rfl

/-- The places of the third region's blocks, and its grid's coordinate. -/
theorem coord2 : ∀ t : Fin cfg2.N, (grid2.coords t 0).val = t.val := (by decide +kernel : ∀ t : Fin grid2.N, (grid2.coords t 0).val = t.val)
theorem index2_0 : ∀ t : Fin cfg2.N, win2_0.index t = ![0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0] := (by decide +kernel : ∀ t : Fin grid2.N, _)

/-- The selection's array, if `at p` is the one key whose number is `p` and the table's rows there are below plus infinity. -/
theorem select_array (V : (c : Dev nD) → (b : Ref sig .tc) → Buf (Elt Ideal) ((c : Thread nD τ).loc b)) (c : Dev nD) (ord : Fin 4096 → Fin 20480)
    (hord : ∀ (p : Fin 4096) (j : Fin 20480), (V c main_v11 : Vec Ideal S1x20480 .i32) (ix2 0 j) = BitVec.ofNat 32 p.val ↔ j = ord p)
    (htop : ∀ (p : Fin 4096) (k : Fin 8), (V c main_v10 : Vec Ideal S20480x8 .f32) (ix2 (ord p) k) ≠ (⊤ : EReal)) :
    (dat2 V c).arrAt 2 cfg2.N = ((fun j => (V c main_v10 : Vec Ideal S20480x8 .f32) (ix2 (ord (j 0)) (j 1))) : Vec Ideal S4096x8 .f32) := by
  refine (dat2 V c).arrAt_eq_of_covers 2 _ (by decide +kernel) fun t hf y => ?_
  blk_simp
  rw [after2_2]
  have ht : t.val < 8 := t.isLt
  have num : ∀ j : Fin 20480, iblk2 V c 0 t (ix2 0 j) = (V c main_v11 : Vec Ideal S1x20480 .i32) (ix2 0 j) := fun j => by
    unfold iblk2
    blk_simp
    refine congrArg _ ?_
    blk_ext [index2_0]
  have row : ∀ (j : Fin 20480) (k : Fin 8), iblk2 V c 1 t (ix2 j k) = (V c main_v10 : Vec Ideal S20480x8 .f32) (ix2 j k) := fun j k => by
    unfold iblk2
    blk_simp
    refine congrArg _ ?_
    blk_ext [index2_1]
  have hp : (((win2_2.blk t).view.emb y 0 : Fin 4096)).val = 512 * t.val + (y 0).val := by
    blk_simp [index2_2]
    omega
  have hk : ((win2_2.blk t).view.emb y 1 : Fin 8) = y 1 := by
    refine Fin.ext ?_
    blk_simp [index2_2]
  rw [eq_ix2 (n0 := 512) (n1 := 8) y]
  refine (pick (grid2.coords t) (iblk2 V c 0 t) (iblk2 V c 1 t) (y 0) (y 1) (ord ((win2_2.blk t).view.emb y 0)) (fun j => ?_) ?_).trans ?_
  · rw [coord2]
    refine Iff.trans ?_ (hord ((win2_2.blk t).view.emb y 0) j)
    rw [hp]
    exact ⟨fun g => (num j).symm.trans g, fun g => (num j).trans g⟩
  · exact fun g => htop _ _ ((row _ _).symm.trans g)
  · rw [← eq_ix2 (n0 := 512) (n1 := 8) y]
    refine (row _ _).trans ?_
    exact congrArg (fun k => (V c main_v10 : Vec Ideal S20480x8 .f32) (ix2 (ord ((win2_2.blk t).view.emb y 0)) k)) hk.symm

/-- Row `p` of the result is the row of boxes and score of the entry that exactly `p` scores go before. -/
theorem stage (c : Dev nD) (hb : ∀ i, boxes m c i ≠ ⊤) (hs : ∀ i, scores m c i ≠ ⊤) (hl : ∀ i, -1 ≤ scores m c i) (ord : Fin 4096 → Fin 20000)
    (hord : ∀ p, place (fun j : Fin 20000 => scores m c (ix1 j)) (ord p) = p.val) (p : Fin 4096) (k : Fin 8) :
    (W5 m ρ c (Proc.devRef .tc main_v12) : Vec Ideal S4096x8 .f32) (ix2 p k)
      = if h4 : k.val < 4 then boxes m c (ix2 (ord p) ⟨k.val, h4⟩) else if k.val - 4 < 1 then scores m c (ix1 (ord p)) else 0 := by
  have hN : 20000 ≤ 20480 := by decide
  have hplace : ∀ q, place (padded m c) (Fin.castLE hN (ord q)) = q.val := fun q => by
    rw [place_padded hN (fun j : Fin 20000 => scores m c (ix1 j)) (padded m c) (-1) (fun j => hl _)
      (fun j => by unfold padded; rw [dif_pos (show (Fin.castLE hN j).val < 20000 from j.isLt)]; rfl)
      (fun j hj => by unfold padded; rw [dif_neg (by omega)]), hord]
  have row : ∀ (q : Fin 4096) (k : Fin 8), (V4 m ρ c main_v10 : Vec Ideal S20480x8 .f32) (ix2 (Fin.castLE hN (ord q)) k)
      = if h4 : k.val < 4 then boxes m c (ix2 (ord q) ⟨k.val, h4⟩) else if k.val - 4 < 1 then scores m c (ix1 (ord q)) else 0 := fun q k =>
    v10_apply m ρ c (Fin.castLE hN (ord q)) k (ord q).isLt
  have e := select_array (V4 m ρ) c (fun q => Fin.castLE hN (ord q)) (fun q j => ?_) (fun q k => ?_)
  · refine (congrFun ((W5_arr m ρ c 2).trans e) (ix2 p k)).trans ?_
    exact row p k
  · rw [show (V4 m ρ c main_v11 : Vec Ideal S1x20480 .i32) (ix2 0 j) = _ from v11_apply m ρ c j]
    refine ⟨fun g => place_inj (padded m c) ?_, fun g => by rw [g, hplace]⟩
    rw [hplace]
    have h1 := place_bound (padded m c) j
    have h2 := q.isLt
    have := congrArg BitVec.toNat g
    rw [BitVec.toNat_ofNat, BitVec.toNat_ofNat, Nat.mod_eq_of_lt (by omega), Nat.mod_eq_of_lt (by omega)] at this
    exact this
  · rw [row]
    split
    · exact hb _
    · split
      · exact hs _
      · exact EReal.zero_ne_top

end Cert.SortIdeal.Rank

end
-- ==== Proof.Value.Overlap.lean ====
/-
  When two boxes meet: their intersection over their union exceeds one half.  The quotient is the same in either order of
  the two boxes.
-/
module

public import proofs.«01_k».proof.Proof.Value.Bits

@[expose] public section

noncomputable section

namespace Cert.Boxes

open Idealize.ShloMosaic

/-- The boxes, one a row: `x0, y0, x1, y1`, then a score and padding. -/
abbrev Boxes : Type := FVec Ideal (⟨2, ![4096, 8]⟩ : Shape) .f32

/-- The area two boxes share. -/
def shared (x : Boxes) (i j : Fin 4096) : EReal :=
  max (min (x (ix2 i 2)) (x (ix2 j 2)) - max (x (ix2 i 0)) (x (ix2 j 0))) 0 *
    max (min (x (ix2 i 3)) (x (ix2 j 3)) - max (x (ix2 i 1)) (x (ix2 j 1))) 0

/-- A box's area. -/
def area (x : Boxes) (i : Fin 4096) : EReal := (x (ix2 i 2) - x (ix2 i 0)) * (x (ix2 i 3) - x (ix2 i 1))

/-- Intersection over union. -/
def over (x : Boxes) (i j : Fin 4096) : EReal :=
  Ideal.div (shared x i j) (max (area x i + area x j - shared x i j) (Ideal.ofBits .f32 0x3089705F#32))

theorem shared_symm (x : Boxes) (i j : Fin 4096) : shared x i j = shared x j i := by
  unfold shared
  rw [min_comm (x (ix2 i 2)), min_comm (x (ix2 i 3)), max_comm (x (ix2 i 0)), max_comm (x (ix2 i 1))]

theorem over_symm (x : Boxes) (i j : Fin 4096) : over x i j = over x j i := by
  unfold over
  rw [shared_symm x i j, add_comm (area x i)]

/-- Boxes `i` and `j` meet. -/
def Meets (x : Boxes) (i j : ℕ) : Prop :=
  ∃ (hi : i < 4096) (hj : j < 4096), Ideal.ofBits .f32 0x3F000000#32 < over x ⟨i, hi⟩ ⟨j, hj⟩

theorem meets_symm (x : Boxes) (i j : ℕ) : Meets x i j → Meets x j i := by
  rintro ⟨hi, hj, h⟩
  exact ⟨hj, hi, by rw [over_symm]; exact h⟩

theorem meets_iff (x : Boxes) (i j : Fin 4096) : Meets x i j ↔ Ideal.ofBits .f32 0x3F000000#32 < over x i j :=
  ⟨fun ⟨_, _, h⟩ => h, fun h => ⟨i.isLt, j.isLt, h⟩⟩

end Cert.Boxes

end
-- ==== Proof.Value.Settle.lean ====
/-
  One block's loop, over the extended reals: on truth values its half trip is a sweep from above and back, so it makes two
  more boxes right; when a half trip changes nothing the column is the block's fixed point, and after 512 trips it is right
  anyway.  So the loop ends with the boxes of the block that are kept among those alive.
-/
module

public import proofs.«01_k».proof.Proof.Ideal.Block
public import proofs.«01_k».proof.Proof.Value.Bits

@[expose] public section

set_option maxRecDepth 16384

noncomputable section

namespace Cert.KernelIdeal.Sup

open Cert.KernelIdeal Cert.KernelIdeal.Gen Cert.Greedy Cert.Truth

open Idealize.ShloMosaic

variable {s : Vec Ideal S512x512 .i8} {e : Vec Ideal S1x512 .f32} {S : ℕ → ℕ → Prop} {E : ℕ → Prop}

theorem slt_fin (i j : Fin 512) : IntOp.cmpi .slt (BitVec.ofNat 32 i.val) (BitVec.ofNat 32 j.val) = 1#1 ↔ i.val < j.val :=
  slt_one i.val j.val (by omega) (by omega)

/-- A half trip on truth values. -/
theorem half_trip (hs : ∀ i j : Fin 512, s (ix2 i j) ≠ 0#8 ↔ S i j) (sym : ∀ i j, S i j → S j i)
    (he : ∀ j : Fin 512, e (ix2 0 j) = bit (E j)) {c a : FVec Ideal S512x1 .f32} {A : ℕ → Prop}
    (hc : ∀ r : Fin 512, c (ix2 r 0) = bit (E r)) (ha : ∀ r : Fin 512, a (ix2 r 0) = bit (A r)) (r : Fin 512) :
    k0_pay62 (k0_pay17 s) e (k0_pay18 s) c a (ix2 r 0) = bit (half E S (half E S A) r) := by
  pointwise [k0_pay62, k0_pay17, k0_pay18, k0_pay16, k0_pay14, k0_pay15]
  simp only [sitofp_bit, andi_one, ne_one, hs, slt_fin, ofBool_one, decide_iff, ha, zero_lt_bit, fold_bit, one_sub_bit, he, hc,
    bit_mul]
  apply bit_congr
  have ha' : ∀ x : Fin 512, 0 < a (ix2 x 0) ↔ A x := fun x => by rw [ha x]; exact zero_lt_bit _
  refine and_congr_right fun _ => ⟨fun h x hx hh hS => h ⟨⟨x, by omega⟩, ⟨sym _ _ hS, hx⟩, hh.1, ?_⟩, ?_⟩
  · rintro ⟨y, ⟨h1, h2⟩, h3⟩
    exact hh.2 y h2 ((ha' y).1 (of_decide_eq_true h3)) h1
  · rintro h ⟨x, ⟨hS, hx⟩, hE, hn⟩
    exact h x hx ⟨hE, fun y hy hA hS' => hn ⟨⟨y, by omega⟩, ⟨hS', hy⟩, decide_eq_true ((ha' _).2 hA)⟩⟩ (sym _ _ hS)

/-- A whole trip is two halves. -/
theorem trip_halves (u l : IVec S512x512 1) (e : Vec Ideal S1x512 .f32) (c a : FVec Ideal S512x1 .f32) :
    k0_pay63 u e l c a = k0_pay62 u e l c (k0_pay62 u e l c a) := rfl

/-- The loop's first column is the block's piece of the row, laid down a column. -/
theorem column_of_row (e : Vec Ideal S1x512 .f32) (r : Fin 512) : k0_pay19 e (ix2 r 0) = e (ix2 0 r) := by
  pointwise [k0_pay19, k0_pay13]
  simp only [sitofp_bit, eq_one]
  rw [Finset.sum_eq_single r]
  · rw [bit_true rfl, one_mul]
  · intro b _ hb
    rw [bit_false, zero_mul]
    rw [ofNat_inj _ _ (by omega) (by omega)]
    exact fun h => hb (Fin.ext h.symm)
  · exact fun h => absurd (Finset.mem_univ r) h

/-- When the least of the marks is positive, every mark is set. -/
theorem all_marked (m : IVec S512x1 1) (h : 0 < k0_pay3 (F := Ideal) m (Scalar.ofBits .f32 0x00000000#32) (k0_pay65 (F := Ideal))) (r : Fin 512) :
    m (ix2 r 0) = 1#1 := by
  revert h
  pointwise [k0_pay3, k0_pay65]
  intro h
  by_contra hm
  have h1 := (Finset.lt_fold_min _ |>.1 h).2 (r, 0) (Finset.mem_univ _)
  simp [Scalar.select, hm] at h1

/-- Where the trip's mark is one, its second half changed nothing. -/
theorem unchanged_of_mark {a : FVec Ideal S512x1 .f32} (h : flagStep s e a = 1#1) (r : Fin 512) :
    colStep s e a (ix2 r 0) = k0_pay62 (k0_pay17 s) e (k0_pay18 s) (k0_pay19 e) a (ix2 r 0) := by
  have hp := of_decide_eq_true ((ofBool_one _).1 h)
  have hm := all_marked _ (lt_of_eq_of_lt Ideal.ofBits_zero_f32.symm hp) r
  exact of_decide_eq_true ((ofBool_one _).1 hm)

/-- A trip on truth values. -/
theorem trip (hs : ∀ i j : Fin 512, s (ix2 i j) ≠ 0#8 ↔ S i j) (sym : ∀ i j, S i j → S j i)
    (he : ∀ j : Fin 512, e (ix2 0 j) = bit (E j)) {a : FVec Ideal S512x1 .f32} {A : ℕ → Prop}
    (ha : ∀ r : Fin 512, a (ix2 r 0) = bit (A r)) (r : Fin 512) :
    colStep s e a (ix2 r 0) = bit (half E S (half E S (half E S (half E S A))) r) := by
  have hc : ∀ r : Fin 512, k0_pay19 e (ix2 r 0) = bit (E r) := fun r => (column_of_row e r).trans (he r)
  unfold colStep
  rw [trip_halves]
  exact half_trip hs sym he hc (half_trip hs sym he hc ha) r

/-- The loop from its `k`-th trip, `n` trips being left. -/
theorem run_bits (hs : ∀ i j : Fin 512, s (ix2 i j) ≠ 0#8 ↔ S i j) (sym : ∀ i j, S i j → S j i)
    (he : ∀ j : Fin 512, e (ix2 0 j) = bit (E j)) :
    ∀ (n k : ℕ) (a : FVec Ideal S512x1 .f32) (f : BitVec 1) (A : ℕ → Prop), k + n = 512 →
      (∀ r : Fin 512, a (ix2 r 0) = bit (A r)) → (∀ r, r < k → (A r ↔ Good E S r)) →
      (f = 1#1 → ∀ r, r < 512 → (A r ↔ Good E S r)) →
      ∀ r : Fin 512, (run (colStep s e) (flagStep s e) n (a, f, BitVec.ofNat 32 k)).1 (ix2 r 0) = bit (Good E S r) := by
  intro n
  induction n with
  | zero =>
    intro k a f A hk ha hA _ r
    show a (ix2 r 0) = _
    rw [ha r]
    exact bit_congr (hA r (by omega))
  | succ n ih =>
    intro k a f A hk ha hA hf r
    unfold run
    by_cases hg : goes (a, f, BitVec.ofNat 32 k) = 1#1
    · rw [if_pos hg]
      have e1 : Scalar.addi (BitVec.ofNat 32 k) 1#32 = BitVec.ofNat 32 (k + 1) := (BitVec.ofNat_add k 1).symm
      show (run _ _ n (colStep s e a, flagStep s e a, Scalar.addi (BitVec.ofNat 32 k) 1#32)).1 _ = _
      rw [e1]
      refine ih (k + 1) _ _ (half E S (half E S (half E S (half E S A)))) (by omega) (trip hs sym he ha) ?_ ?_ r
      · intro r hr
        exact half_agree (half_agree (half_agree (half_agree hA))) r (by omega)
      · intro hm
        have hc : ∀ r : Fin 512, k0_pay19 e (ix2 r 0) = bit (E r) := fun r => (column_of_row e r).trans (he r)
        have same : ∀ r, r < 512 → (half E S (half E S (half E S (half E S A))) r ↔ half E S (half E S A) r) := by
          intro r hr
          have h1 := unchanged_of_mark hm ⟨r, hr⟩
          rw [trip hs sym he ha ⟨r, hr⟩, half_trip hs sym he hc ha ⟨r, hr⟩] at h1
          exact bit_inj.1 h1
        intro r hr
        exact (same r hr).trans (fixed same r hr)
    · rw [if_neg hg]
      show a (ix2 r 0) = _
      rw [ha r]
      refine bit_congr (hf ?_ r r.isLt)
      by_contra hne
      apply hg
      show Scalar.andi (Scalar.xori f 1#1) (Scalar.cmpi .slt (BitVec.ofNat 32 k) (BitVec.ofNat 32 512)) = 1#1
      have h2 : IntOp.cmpi .slt (BitVec.ofNat 32 k) (BitVec.ofNat 32 512) = 1#1 := (slt_one _ _ (by omega) (by omega)).2 (by omega)
      show IntOp.andi (IntOp.xori f 1#1) (IntOp.cmpi .slt (BitVec.ofNat 32 k) (BitVec.ofNat 32 512)) = 1#1
      rw [h2, andi_one]
      refine ⟨?_, rfl⟩
      rcases BitVec.eq_zero_or_eq_one f with rfl | rfl
      · rfl
      · exact absurd rfl hne

/-- A block's keep column: the boxes of the block that are kept among those alive. -/
theorem settle_bits (hs : ∀ i j : Fin 512, s (ix2 i j) ≠ 0#8 ↔ S i j) (sym : ∀ i j, S i j → S j i)
    (he : ∀ j : Fin 512, e (ix2 0 j) = bit (E j)) (r : Fin 512) : settle s e (ix2 r 0) = bit (Good E S r) := by
  unfold settle
  rw [settled_eq]
  exact run_bits hs sym he 512 0 _ _ E rfl (fun r => (column_of_row e r).trans (he r)) (fun r hr => absurd hr (Nat.not_lt_zero r))
    (fun h => absurd h (by decide)) r

end Cert.KernelIdeal.Sup

end
-- ==== Proof.Value.Strike.lean ====
/-
  Striking on truth values: a box stays alive unless a kept box of the block meets it and it lies at or after the lane.
-/
module

public import proofs.«01_k».proof.Proof.Ideal.Block
public import proofs.«01_k».proof.Proof.Value.Bits

@[expose] public section

set_option maxRecDepth 16384

noncomputable section

namespace Cert.KernelIdeal.Sup

open Cert.KernelIdeal Cert.KernelIdeal.Gen Cert.Greedy Cert.Truth

open Idealize.ShloMosaic

/-- Striking, on truth values. -/
theorem strike_bits {kc : FVec Ideal S512x1 .f32} {rows : Vec Ideal S512x4096 .i8} {kr : Vec Ideal S1x4096 .f32} {P : ℕ → ℕ → Prop}
    {K R : ℕ → Prop} {l : ℕ} (hl : l < 4097) (hk : ∀ i : Fin 512, kc (ix2 i 0) = bit (K i))
    (hp : ∀ (i : Fin 512) (j : Fin 4096), rows (ix2 i j) ≠ 0#8 ↔ P i j) (hr : ∀ j : Fin 4096, kr (ix2 0 j) = bit (R j)) (j : Fin 4096) :
    strike (BitVec.ofNat 32 l) kc rows kr (ix2 0 j) = bit (R j ∧ ¬((∃ i : Fin 512, P i j ∧ K i) ∧ l ≤ j.val)) := by
  have hk' : ∀ i : Fin 512, decide (0 < kc (ix2 i 0)) = true ↔ K i := fun i => by
    rw [decide_iff, hk i]; exact zero_lt_bit _
  pointwise [strike]
  simp only [sitofp_bit, andi_one, ne_one, hp, ofBool_one, hk', fold_bit, hr, sge_one j.val l (by omega) hl, bit_mul, one_sub_bit]
  refine bit_congr (and_congr_right fun _ => not_congr (and_congr_left fun _ => exists_congr fun i => and_congr_right fun _ => ?_))
  exact hk' i

end Cert.KernelIdeal.Sup

end
-- ==== Proof.Value.Chain.lean ====
/-
  The chain of blocks, over the extended reals: where the comparison matrix says which boxes meet, the keep column of all
  boxes is the greedy choice.
-/
module

public import proofs.«01_k».proof.Proof.Ideal.Tiled
public import proofs.«01_k».proof.Proof.Value.Settle
public import proofs.«01_k».proof.Proof.Value.Strike

@[expose] public section

set_option maxRecDepth 16384

noncomputable section

namespace Cert.KernelIdeal.Sup

open Cert.KernelIdeal Cert.KernelIdeal.Gen Cert.Greedy Cert.Truth

open Idealize.ShloMosaic

variable {M : Vec Ideal S4096x4096 .i8} {S : ℕ → ℕ → Prop}

theorem sq_bits (hM : ∀ i j : Fin 4096, M (ix2 i j) ≠ 0#8 ↔ S i j) (k : ℕ) (hk : k < 8) (i j : Fin 512) :
    sqAt M k (ix2 i j) ≠ 0#8 ↔ S (512 * k + i) (512 * k + j) := by
  have e : sqAt M k (ix2 i j) = M (ix2 ⟨512 * k + i.val, by omega⟩ ⟨512 * k + j.val, by omega⟩) := by
    unfold sqAt
    rw [dif_pos hk]
    unfold VecWindow.window
    congr 1
    funext a
    match a with
    | ⟨0, _⟩ => exact Fin.ext (by show 512 * k + 1 * i.val = 512 * k + i.val; omega)
    | ⟨1, _⟩ => exact Fin.ext (by show 512 * k + 1 * j.val = 512 * k + j.val; omega)
  rw [e, hM]

theorem rows_bits (hM : ∀ i j : Fin 4096, M (ix2 i j) ≠ 0#8 ↔ S i j) (k : ℕ) (hk : k < 8) (i : Fin 512) (j : Fin 4096) :
    rowsAt M k (ix2 i j) ≠ 0#8 ↔ S (512 * k + i) j := by
  have e : rowsAt M k (ix2 i j) = M (ix2 ⟨512 * k + i.val, by omega⟩ j) := by
    unfold rowsAt
    rw [dif_pos hk]
    unfold VecWindow.window
    congr 1
    funext a
    match a with
    | ⟨0, _⟩ => exact Fin.ext (by show 512 * k + 1 * i.val = 512 * k + i.val; omega)
    | ⟨1, _⟩ => exact Fin.ext (by show 0 + 1 * j.val = j.val; omega)
  rw [e, hM]

theorem piece_apply (r : Vec Ideal S1x4096 .f32) (k : ℕ) (hk : k < 8) (j : Fin 512) :
    pieceAt r k (ix2 0 j) = r (ix2 0 ⟨512 * k + j.val, by omega⟩) := by
  unfold pieceAt
  rw [dif_pos hk]
  unfold VecWindow.window
  congr 1
  funext a
  match a with
  | ⟨0, _⟩ => exact Fin.ext (by show 0 + 1 * 0 = 0; omega)
  | ⟨1, _⟩ => exact Fin.ext (by show 512 * k + 1 * j.val = 512 * k + j.val; omega)

/-- Before the first block every box is alive. -/
theorem alive_first (j : Fin 4096) : (k0_pay12 (F := Ideal)) (ix2 0 j) = bit True := by
  rw [bit_true trivial]
  pointwise [k0_pay12]

/-- A block's keep column, of a row that says rightly which boxes of the block are alive. -/
theorem block_bits (hM : ∀ i j : Fin 4096, M (ix2 i j) ≠ 0#8 ↔ S i j) (sym : ∀ i j, S i j → S j i) (k : ℕ) (hk : k < 8)
    {row : Vec Ideal S1x4096 .f32} {R : ℕ → Prop} (hr : ∀ j : Fin 4096, row (ix2 0 j) = bit (R j))
    (hR : ∀ j, 512 * k ≤ j → j < 4096 → (R j ↔ Alive S (512 * k) j)) (r : Fin 512) :
    settle (sqAt M k) (pieceAt row k) (ix2 r 0) = bit (Kept S (512 * k + r)) := by
  rw [settle_bits (S := fun i j => S (512 * k + i) (512 * k + j)) (E := fun r => Alive S (512 * k) (512 * k + r)) (sq_bits hM k hk)
    (fun i j => sym _ _) ?_ r]
  · exact bit_congr (good_block S (512 * k) r)
  · intro j
    rw [piece_apply row k hk j, hr]
    exact bit_congr (hR _ (by simp) (by show 512 * k + j.val < 4096; omega))

/-- Every block's keep column and row. -/
theorem chain_bits (hM : ∀ i j : Fin 4096, M (ix2 i j) ≠ 0#8 ↔ S i j) (sym : ∀ i j, S i j → S j i) : ∀ k, k < 8 →
    (∀ r : Fin 512, (blk M k).1 (ix2 r 0) = bit (Kept S (512 * k + r))) ∧
    ∃ R : ℕ → Prop, (∀ j : Fin 4096, (blk M k).2 (ix2 0 j) = bit (R j)) ∧ ∀ j, 512 * k ≤ j → j < 4096 → (R j ↔ Alive S (512 * k) j) := by
  intro k
  induction k with
  | zero =>
    intro hk
    have hR : ∀ j, 512 * 0 ≤ j → j < 4096 → ((fun _ => True) j ↔ Alive S (512 * 0) j) := fun j _ _ => ⟨fun _ => alive_zero S j, fun _ => trivial⟩
    exact ⟨block_bits hM sym 0 hk alive_first hR, fun _ => True, alive_first, hR⟩
  | succ k ih =>
    intro hk
    obtain ⟨hK, R, hr, hR⟩ := ih (by omega)
    have h2 := strike_bits (P := fun i j => S (512 * k + i) j) (K := fun i => Kept S (512 * k + i)) (l := 512 * (k + 1)) (by omega) hK (rows_bits hM k (by omega)) hr
    have h3 : ∀ j, 512 * (k + 1) ≤ j → j < 4096 →
        ((fun j => R j ∧ ¬((∃ i : Fin 512, S (512 * k + i) j ∧ Kept S (512 * k + i)) ∧ 512 * (k + 1) ≤ j)) j ↔ Alive S (512 * (k + 1)) j) := by
      intro j hj hj'
      rw [show 512 * (k + 1) = 512 * k + 512 by omega, alive_add]
      show R j ∧ _ ↔ _
      rw [hR j (by omega) hj']
      refine and_congr_right fun _ => ⟨fun h r hr hkept hS => h ⟨⟨⟨r, hr⟩, hS, hkept⟩, by omega⟩, ?_⟩
      rintro h ⟨⟨i, hS, hkept⟩, _⟩
      exact h i i.isLt hkept hS
    exact ⟨block_bits hM sym (k + 1) hk h2 h3,
      fun j => R j ∧ ¬((∃ i : Fin 512, S (512 * k + i) j ∧ Kept S (512 * k + i)) ∧ 512 * (k + 1) ≤ j), h2, h3⟩

/-- The keep column of all boxes. -/
theorem keep_bits (hM : ∀ i j : Fin 4096, M (ix2 i j) ≠ 0#8 ↔ S i j) (sym : ∀ i j, S i j → S j i) (j : Fin 4096) :
    keepAll M (ix2 j 0) = bit (Kept S j) := by
  unfold keepAll tiled
  have e : inBand (n := 1) (ix2 j 0) = ix2 ⟨j.val % 512, Nat.mod_lt _ (by decide)⟩ 0 := by
    funext a
    match a with
    | ⟨0, _⟩ => rfl
    | ⟨1, _⟩ => rfl
  show (blk M (j.val / 512)).1 (inBand (n := 1) (ix2 j 0)) = _
  rw [e, (chain_bits hM sym (j.val / 512) (by omega)).1]
  refine bit_congr (iff_of_eq (congrArg _ ?_))
  show 512 * (j.val / 512) + j.val % 512 = j.val
  omega

end Cert.KernelIdeal.Sup

end
-- ==== Proof.Value.Compare.lean ====
/-
  The kernel's comparison matrix says which boxes meet, and the kernel's result is each row times whether its box is kept.
-/
module

public import proofs.«01_k».proof.Proof.Value.Overlap
public import proofs.«01_k».proof.Proof.Value.Chain

@[expose] public section

set_option maxRecDepth 16384

noncomputable section

namespace Cert.KernelIdeal.Sup

open Cert.KernelIdeal Cert.KernelIdeal.Gen Cert.Greedy Cert.Truth Cert.Boxes

open Idealize.ShloMosaic

/-- A comparison's byte is set where the comparison holds. -/
theorem byte_set (b : Bool) : BitVec.setWidth 8 (BitVec.ofBool b) ≠ 0#8 ↔ b = true := by
  revert b; decide

/-- A row of the turned boxes. -/
theorem turned_row (x1 : Vec Ideal S8x4096 .f32) (r : Fin 8) (inb : ∀ a, (![r.val, 0] : Fin 2 → ℕ) a + S1x4096.size a ≤ S8x4096.size a) (j : Fin 4096) :
    VecWindow.window x1 ![r.val, 0] S1x4096.size inb (ix2 0 j) = x1 (ix2 r j) := by
  unfold VecWindow.window
  congr 1
  funext a
  match a with
  | ⟨0, _⟩ => exact Fin.ext (by show r.val + 1 * 0 = r.val; omega)
  | ⟨1, _⟩ => exact Fin.ext (by show 0 + 1 * j.val = j.val; omega)

/-- A column of a band of boxes. -/
theorem band_col (x0 : Vec Ideal S4096x8 .f32) (k : ℕ) (c : Fin 8) (inb : ∀ a, (![512 * k, c.val] : Fin 2 → ℕ) a + S512x1.size a ≤ S4096x8.size a)
    (i : Fin 4096) (r : Fin 512) (h : 512 * k + r.val = i.val) :
    VecWindow.window x0 ![512 * k, c.val] S512x1.size inb (ix2 r 0) = x0 (ix2 i c) := by
  unfold VecWindow.window
  congr 1
  funext a
  match a with
  | ⟨0, _⟩ => exact Fin.ext (by show 512 * k + 1 * r.val = i.val; omega)
  | ⟨1, _⟩ => exact Fin.ext (by show c.val + 1 * 0 = c.val; omega)

/-- Turned boxes read back. -/
theorem turned_apply (x0 : FVec Ideal S4096x8 .f32) (r : Fin 8) (j : Fin 4096) :
    (transpose S8x4096 [1, 0] x0 transposes_S4096x8_S8x4096_1_0 : FVec Ideal S8x4096 .f32) (ix2 r j) = x0 (ix2 j r) := by
  pointwise

/-- One band's comparison. -/
theorem compare_bits (a0 a1 a2 a3 : Vec Ideal S1x4096 .f32) (b0 b1 b2 b3 : Vec Ideal S512x1 .f32) (x : Boxes) (r : Fin 512) (i j : Fin 4096)
    (ha0 : a0 (ix2 0 j) = x (ix2 j 0)) (ha1 : a1 (ix2 0 j) = x (ix2 j 1)) (ha2 : a2 (ix2 0 j) = x (ix2 j 2)) (ha3 : a3 (ix2 0 j) = x (ix2 j 3))
    (hb0 : b0 (ix2 r 0) = x (ix2 i 0)) (hb1 : b1 (ix2 r 0) = x (ix2 i 1)) (hb2 : b2 (ix2 r 0) = x (ix2 i 2)) (hb3 : b3 (ix2 r 0) = x (ix2 i 3)) :
    k0_pay11 a0 a1 a2 a3 b0 b1 b2 b3 (ix2 r j) ≠ 0#8 ↔ Meets x i j := by
  rw [meets_iff]
  pointwise [k0_pay11]
  rw [byte_set, decide_iff, ha0, ha1, ha2, ha3, hb0, hb1, hb2, hb3]
  rfl

/-- The comparison matrix. -/
theorem matrix_bits (x : FVec Ideal S4096x8 .f32) (i j : Fin 4096) :
    simAll (F := Ideal) x (transpose S8x4096 [1, 0] x transposes_S4096x8_S8x4096_1_0 : FVec Ideal S8x4096 .f32) (ix2 i j) ≠ 0#8 ↔ Meets x i j := by
  have hk : i.val / 512 < 8 := by omega
  have hi : 512 * (i.val / 512) + i.val % 512 = i.val := by omega
  have e : inBand (n := 4096) (ix2 i j) = ix2 ⟨i.val % 512, Nat.mod_lt _ (by decide)⟩ j := by
    funext a
    match a with
    | ⟨0, _⟩ => rfl
    | ⟨1, _⟩ => rfl
  unfold simAll tiled
  show simRows (F := Ideal) x _ (i.val / 512) (inBand (n := 4096) (ix2 i j)) ≠ 0#8 ↔ _
  rw [e]
  unfold simRows
  rw [dif_pos hk]
  refine compare_bits _ _ _ _ _ _ _ _ x _ i j ?_ ?_ ?_ ?_ ?_ ?_ ?_ ?_
  · exact (turned_row _ 0 _ j).trans (turned_apply x 0 j)
  · exact (turned_row _ 1 _ j).trans (turned_apply x 1 j)
  · exact (turned_row _ 2 _ j).trans (turned_apply x 2 j)
  · exact (turned_row _ 3 _ j).trans (turned_apply x 3 j)
  · exact band_col x _ 0 _ i _ hi
  · exact band_col x _ 1 _ i _ hi
  · exact band_col x _ 2 _ i _ hi
  · exact band_col x _ 3 _ i _ hi

/-- The kernel's result at a row and a column. -/
theorem result_apply (x : FVec Ideal S4096x8 .f32) (i : Fin 4096) (q : Fin 8) :
    result (F := Ideal) x (transpose S8x4096 [1, 0] x transposes_S4096x8_S8x4096_1_0 : FVec Ideal S8x4096 .f32) (ix2 i q)
      = x (ix2 i q) * bit (Kept (Meets x) i) := by
  unfold result
  rw [← keep_bits (matrix_bits x) (meets_symm x) i]
  generalize keepAll (F := Ideal) _ = k
  pointwise [k0_pay2]

end Cert.KernelIdeal.Sup

end
-- ==== Proof.Value.Sweep.lean ====
/-
  The reference's loop, over the extended reals: one trip is one step of the sweep, so after 4096 trips its vector of truth
  values is the greedy choice.
-/
module

public import proofs.«01_k».proof.Proof.Value.Overlap
public import proofs.«01_k».proof.Proof.Gen.ReferenceIdeal.Run
public import Idealize.ShloMosaic.Lib.DynamicIndex

@[expose] public section

set_option maxRecDepth 16384

noncomputable section

namespace Cert.ReferenceIdeal.Value

open Cert.ReferenceIdeal Cert.ReferenceIdeal.Gen Cert.Greedy Cert.Truth Cert.Boxes

open Idealize.ShloMosaic Idealize.ShloMosaic.TcCoe Idealize.ShloMosaic.Tactic Idealize.ShloMosaic.StableHlo

/-- Row `k` of a table, sliced at an index that is `k`. -/
theorem row_apply (T : FVec Ideal S4096x4096 .f32) (k : Fin 4096) (st : Fin 2 → ℤ) (h0 : st 0 = k.val) (h1 : st 1 = 0) (j : Fin 4096) :
    shapeCast S4096 (Host.dynamicSlice S1x4096 T st sliceFits_S4096x4096_S1x4096) shapeCasts_S1x4096_S4096 (ix1 j) = T (ix2 k j) := by
  pointwise
  refine congrArg T (funext fun a => ?_)
  match a with
  | ⟨0, _⟩ =>
    refine Fin.ext ?_
    show (min (max (st 0) 0) ((4096 : ℤ) - 1)).toNat = k.val
    rw [h0]; omega
  | ⟨1, _⟩ =>
    refine Fin.ext ?_
    show (min (max (st 1) 0) ((4096 : ℤ) - 4096)).toNat + j.val = j.val
    rw [h1]; omega

/-- Entry `k` of a vector, sliced at an index that is `k`. -/
theorem entry_apply (b : IVec S4096 1) (k : Fin 4096) (st : Fin 1 → ℤ) (h0 : st 0 = k.val) (i : S_.Idx) :
    shapeCast S_ (Host.dynamicSlice S1 b st sliceFits_S4096_S1) shapeCasts_S1_S_ i = b (ix1 k) := by
  pointwise
  refine congrArg b (funext fun a => ?_)
  match a with
  | ⟨0, _⟩ =>
    refine Fin.ext ?_
    show (min (max (st 0) 0) ((4096 : ℤ) - 1)).toNat = k.val
    rw [h0]; omega

/-- One trip's truth values, from the table, the numbers, the trip's index and the truth values before. -/
theorem strike_apply (T : FVec Ideal S4096x4096 .f32) (b : IVec S4096 1) (q : IVec S_ 32) (k : Fin 4096) (hq : q = fun _ => BitVec.ofNat 32 k.val)
    (st : Fin 2 → ℤ) (st' : Fin 1 → ℤ) (h0 : st 0 = k.val) (h1 : st 1 = 0) (h0' : st' 0 = k.val) (j : Fin 4096) :
    andi b (noti (andi (andi (cmpf .ogt (shapeCast S4096 (Host.dynamicSlice S1x4096 T st sliceFits_S4096x4096_S1x4096) shapeCasts_S1x4096_S4096)
        (broadcastInDim S4096 ![] bcast_S_S4096 (constant S_ .f32 0x3F000000#32)))
      (broadcastInDim S4096 ![] bcast_S_S4096 (shapeCast S_ (Host.dynamicSlice S1 b st' sliceFits_S4096_S1) shapeCasts_S1_S_)))
      (cmpi .sgt (iotaInDim S4096 32 0) (broadcastInDim S4096 ![] bcast_S_S4096 q)))) (ix1 j) = 1#1
      ↔ b (ix1 j) = 1#1 ∧ ¬((Ideal.ofBits .f32 0x3F000000#32 < T (ix2 k j) ∧ b (ix1 k) = 1#1) ∧ k.val < j.val) := by
  have e1 := row_apply T k st h0 h1 j
  have e2 := entry_apply b k st' h0'
  generalize shapeCast S4096 (Host.dynamicSlice S1x4096 T st sliceFits_S4096x4096_S1x4096) shapeCasts_S1x4096_S4096 = u at e1 ⊢
  generalize shapeCast S_ (Host.dynamicSlice S1 b st' sliceFits_S4096_S1) shapeCasts_S1_S_ = w at e2 ⊢
  subst hq
  pointwise
  rw [e1, e2, andi_one, noti_one, andi_one, andi_one, ofBool_one, decide_iff, sgt_one _ _ (by omega) (by omega)]

/-- A loop's index `k`, wrapped as a position counted from the end would be, is `k`. -/
theorem wrapped (k : Fin 4096) (i : S_.Idx) : BitVec.toInt (select (cmpi .slt (fun _ => BitVec.ofNat 32 k.val : IVec S_ 32) (constantI S_ 32 0#32))
    (addi (fun _ => BitVec.ofNat 32 k.val) (constantI S_ 32 4096#32)) (fun _ => BitVec.ofNat 32 k.val) i) = (k.val : ℤ) :=
  toInt_wrap_ofNat (d := constantI S_ 32 4096#32) k.val (by omega)

/-- What the loop carries before its `k`-th trip: the table, the numbers, the trip's index and the sweep's truth values. -/
structure Sweeping (x : Boxes) (k : ℕ) (V : Valuation τ sig (Elt Ideal)) : Prop where
  table : (V (Proc.devRef .tc main_v49_0) : FVec Ideal S4096x4096 .f32) = fun y => over x (y 0) (y 1)
  numbers : (V (Proc.devRef .tc main_v49_1) : IVec S4096 32) = iotaInDim S4096 32 0
  index : (V (Proc.devRef .tc main_v49_3) : IVec S_ 32) = fun _ => BitVec.ofNat 32 k
  bits : ∀ j : Fin 4096, (V (Proc.devRef .tc main_v49_4) : IVec S4096 1) (ix1 j) = 1#1 ↔ Swept (Meets x) k j

/-- One trip. -/
theorem sweeping_step (x : Boxes) (k : ℕ) (hk : k < 4096) (V : Valuation τ sig (Elt Ideal)) (h : Sweeping x k V) :
    Sweeping x (k + 1) (STEP V) where
  table := (STEP_main_v49_0 V).trans h.table
  numbers := (STEP_main_v49_1 V).trans h.numbers
  index := by
    rw [STEP_main_v49_3]
    unfold step_main_v49_3
    have e := h.index
    funext i
    show IntOp.addi ((V (Proc.devRef .tc main_v49_3) : IVec S_ 32) i) 1#32 = _
    rw [e]
    exact (BitVec.ofNat_add k 1).symm
  bits := by
    intro j
    rw [STEP_main_v49_4]
    unfold step_main_v49_4 res_main_while0b_v56
    have e0 : V (Proc.devRef .tc main_v49_0) = fun y => over x (y 0) (y 1) := h.table
    have e1 : V (Proc.devRef .tc main_v49_1) = iotaInDim S4096 32 0 := h.numbers
    have e3 : V (Proc.devRef .tc main_v49_3) = fun _ => BitVec.ofNat 32 k := h.index
    have hb := h.bits
    rw [e0, e1, e3]
    refine (strike_apply (fun y => over x (y 0) (y 1)) (V (Proc.devRef .tc main_v49_4)) (fun _ => BitVec.ofNat 32 k) ⟨k, hk⟩ rfl _ _
      (wrapped ⟨k, hk⟩ _)
      (toInt_wrap_ofNat (d := constantI S_ 32 4096#32) (i := Shape.Idx.first h_S_) 0 (by decide)) (wrapped ⟨k, hk⟩ _) j).trans ?_
    rw [hb j, hb ⟨k, hk⟩, swept_succ]
    have hm : Ideal.ofBits .f32 0x3F000000#32 < over x ⟨k, hk⟩ j ↔ Meets x k j := (meets_iff x ⟨k, hk⟩ j).symm
    show _ ∧ ¬((Ideal.ofBits .f32 0x3F000000#32 < over x ⟨k, hk⟩ j ∧ _) ∧ k < j.val) ↔ _
    rw [hm, and_assoc]

variable (m : (ℓ : Loc nD τ sig) → Buf (Elt Ideal) ℓ)

/-- The loop's entry. -/
theorem sweeping_entry (c : Dev nD) (x : Boxes) (hx : (m ((c : Thread nD τ).loc main_arg0) : FVec Ideal S4096x8 .f32) = x) :
    Sweeping x 0 (entryContents preI m c) where
  table := by
    funext y
    have hx' : launchContents m c (Proc.devRef .tc main_arg0) = x := hx
    simp only [entryContents, afterL_cons, afterL_nil]
    after_reads_simp
    rw [hx']
    show Host.divf (F := Ideal) (s := S4096x4096) (φ := .f32) _ _ y = over x (y 0) (y 1)
    pointwise [over, shared, area]
  numbers := by
    simp only [entryContents, afterL_cons, afterL_nil]
    after_reads_simp
    rfl
  index := by
    simp only [entryContents, afterL_cons, afterL_nil]
    after_reads_simp
    rfl
  bits := by
    intro j
    have e : (entryContents preI m c (Proc.devRef .tc main_v49_4) : IVec S4096 1) = fun _ => 1#1 := by
      simp only [entryContents, afterL_cons, afterL_nil]
      after_reads_simp
      rfl
    rw [e]
    exact ⟨fun _ => swept_zero _ _, fun _ => rfl⟩

/-- Before the `k`-th trip. -/
theorem sweeping (c : Dev nD) (x : Boxes) (hx : (m ((c : Thread nD τ).loc main_arg0) : FVec Ideal S4096x8 .f32) = x) :
    ∀ k, k ≤ 4096 → Sweeping x k (STEP^[k] (entryContents preI m c)) := by
  intro k
  induction k with
  | zero => exact fun _ => sweeping_entry m c x hx
  | succ k ih =>
    intro hk
    rw [Function.iterate_succ_apply']
    exact sweeping_step x k (by omega) _ (ih (by omega))

/-- The reference's result at a row and a column. -/
theorem out_apply (c : Dev nD) (x : Boxes) (hx : (m ((c : Thread nD τ).loc main_arg0) : FVec Ideal S4096x8 .f32) = x) (i : Fin 4096) (q : Fin 8) :
    (out_main_v54 (STEP^[4096] (entryContents preI m c)) : FVec Ideal S4096x8 .f32) (ix2 i q) = x (ix2 i q) * bit (Kept (Meets x) i) := by
  have h := (sweeping m c x hx 4096 le_rfl).bits i
  rw [swept_last _ _ _ i.isLt] at h
  have ea : (STEP^[4096] (entryContents preI m c)) (Proc.devRef .tc main_arg0) = x := (iter_main_arg0 m c 4096).trans hx
  unfold out_main_v54
  rw [ea]
  generalize (STEP^[4096] (entryContents preI m c)) (Proc.devRef .tc main_v49_4) = b at h
  change IVec S4096 1 at b
  show mulf (s := S4096x8) (φ := .f32) x _ (ix2 i q) = _
  pointwise
  refine congrArg (x (ix2 i q) * ·) ?_
  show Scalar.select (b (ix1 i)) (Ideal.ofBits .f32 0x3F800000#32) (Ideal.ofBits .f32 0x00000000#32) = _
  by_cases hk : Kept (Meets x) i
  · rw [h.2 hk, bit_true hk]
    exact Ideal.ofBits_one_f32
  · rw [bit_false hk]
    have h0 : b (ix1 i) = 0#1 := (BitVec.eq_zero_or_eq_one _).resolve_right fun h' => hk (h.1 h')
    rw [h0]
    exact Ideal.ofBits_zero_f32

end Cert.ReferenceIdeal.Value

end
-- ==== Proof.lean ====
/-
  The suppression kernel and its reference: both programs keep their argument and come to rest, and over the extended reals
  they compute the same array — each row of boxes times whether greedy suppression keeps its box.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Sort
public import proofs.«01_k».proof.Proof.Gen.Sort.Frame
public import proofs.«01_k».proof.Proof.Gen.SortIdeal
public import proofs.«01_k».proof.Proof.Gen.SortIdeal.Frame
public import proofs.«01_k».proof.Proof.Gen.SortReferenceIdeal
public import proofs.«01_k».proof.Proof.Kernel.Launch
public import proofs.«01_k».proof.Proof.Ideal.Launch
public import proofs.«01_k».proof.Proof.Sorting.Ends
public import proofs.«01_k».proof.Proof.Sorting.Reads
public import proofs.«01_k».proof.Proof.Sorting.Require
public import proofs.«01_k».proof.Proof.Sorting.Stage
public import proofs.«01_k».proof.Proof.Sorting.Wanted
public import proofs.«01_k».proof.Proof.Value.Compare
public import proofs.«01_k».proof.Proof.Value.Sweep
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel keeps its argument and comes to rest. -/
theorem kernel_quiet : Cert.quiescent_Kernel := fun m g _ => Cert.Kernel.Sup.quiet m g

/-- So does its idealization. -/
theorem kernelIdeal_quiet : Cert.quiescent_KernelIdeal := fun m g _ => Cert.KernelIdeal.Sup.quiet m g

/-- So does the reference. -/
theorem referenceIdeal_quiet : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- The two results are one array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD) (x : Cert.Boxes.Boxes)
    (hx : (m' ((c.tc : Thread Cert.ReferenceIdeal.nD Cert.ReferenceIdeal.τ).loc Cert.ReferenceIdeal.main_arg0) : FVec Ideal (⟨2, ![4096, 8]⟩ : Shape) .f32) = x) :
    (Cert.ReferenceIdeal.Value.out_main_v54 (Cert.ReferenceIdeal.Value.STEP^[4096]
        (StableHlo.entryContents Cert.ReferenceIdeal.Value.preI m' c)) : FVec Ideal (⟨2, ![4096, 8]⟩ : Shape) .f32)
      = Cert.KernelIdeal.Sup.result (F := Ideal) x
          (transpose Cert.KernelIdeal.S8x4096 [1, 0] x Cert.KernelIdeal.Gen.transposes_S4096x8_S8x4096_1_0) := by
  funext y
  rw [eq_ix2 y]
  exact (Cert.ReferenceIdeal.Value.out_apply m' c x hx (y 0) (y 1)).trans (Cert.KernelIdeal.Sup.result_apply x (y 0) (y 1)).symm

/-- From the same boxes the kernel and the reference compute the same result. -/
theorem same_result : Cert.algebraic_KernelIdeal_ReferenceIdeal := by
  intro m g m' g' _ hagree
  refine ⟨fun c => Cert.KernelIdeal.Sup.result (F := Ideal) (m ((c.tc : Thread Cert.KernelIdeal.nD Cert.KernelIdeal.τ).loc Cert.KernelIdeal.main_arg0))
      (transpose Cert.KernelIdeal.S8x4096 [1, 0] (m ((c.tc : Thread Cert.KernelIdeal.nD Cert.KernelIdeal.τ).loc Cert.KernelIdeal.main_arg0))
        Cert.KernelIdeal.Gen.transposes_S4096x8_S8x4096_1_0),
    Cert.KernelIdeal.Sup.ends m g, (θ_run _ _ _).mono (fun r h c => ⟨(h c).1.trans ?_, (h c).2⟩) (Cert.ReferenceIdeal.Value.run m' g')⟩
  exact same m m' c _ (hagree c)

/-- The sorting stage keeps its arguments and comes to rest. -/
theorem sort_quiet : Cert.quiescent_Sort := fun m g _ => Cert.Sort.Gen.frame m g

/-- So does its idealization. -/
theorem sortIdeal_quiet : Cert.quiescent_SortIdeal := fun m g _ => Cert.SortIdeal.Gen.frame m g

/-- So does the sorting's reference. -/
theorem sortReference_quiet : Cert.quiescent_SortReferenceIdeal := fun m g _ =>
  (θ_run _ _ _).mono (fun r h => ⟨fun c => (h c).2, Idealize.ShloMosaic.sem_eq_zero_of_no_sems (by decide) r.2⟩)
    (Cert.SortReferenceIdeal.Wanted.run m g)

/-- The two sorted tables are one array. -/
theorem same_table (m : (ℓ : Loc Cert.SortIdeal.nD Cert.SortIdeal.τ Cert.SortIdeal.sig) → Buf (Elt Ideal) ℓ) (g : Dev Cert.SortIdeal.nD → PrngReg)
    (c : Dev Cert.SortIdeal.nD) (h : Cert.Pre_sort_pre.fn (F := Ideal) (Cert.SortIdeal.Rank.boxes m c) (Cert.SortIdeal.Rank.scores m c) = fun _ => 1#1) :
    Cert.SortReferenceIdeal.Wanted.wanted (Cert.SortIdeal.Rank.scores m c) (Cert.SortIdeal.Rank.boxes m c)
      = (Cert.SortIdeal.Gen.W5 m g c (Proc.devRef .tc Cert.SortIdeal.main_v12) : FVec Ideal (⟨2, ![4096, 8]⟩ : Shape) .f32) := by
  obtain ⟨hb, hs, hl⟩ := Cert.Pre_sort_pre.read _ _ h
  rw [Cert.SortIdeal.Rank.minus_one] at hl
  funext y
  rw [eq_ix2 y]
  exact (Cert.SortReferenceIdeal.Wanted.wanted_apply _ _ (y 0) (y 1)).trans
    (Cert.SortIdeal.Rank.stage m g c hb hs hl _ (Cert.SortReferenceIdeal.Wanted.place_order _) (y 0) (y 1)).symm

/-- From the same boxes and scores the sorting stage and its reference compute the same table. -/
theorem same_sorted : Cert.algebraic_SortIdeal_SortReferenceIdeal_pre_sort_pre (hPre_sort_pre := Cert.Pre_sort_pre.facts) := by
  intro m g m' g' hpre hagree
  refine ⟨fun c => Cert.SortIdeal.Gen.W5 m g c (Proc.devRef .tc Cert.SortIdeal.main_v12), Cert.SortIdeal.Rank.ends m g,
    (θ_run _ _ _).mono (fun r h c => ⟨(h c).1.trans ?_, (h c).2⟩) (Cert.SortReferenceIdeal.Wanted.run m' g')⟩
  rw [(hagree c).1, (hagree c).2]
  exact same_table m g c (hpre c)

theorem claim : Cert.Claim := ⟨Cert.Kernel.Gen.facts, Cert.KernelIdeal.Gen.facts, Cert.ReferenceIdeal.Gen.facts, Cert.Sort.Gen.facts, Cert.SortIdeal.Gen.facts,
  Cert.SortReferenceIdeal.Gen.facts, Cert.Pre_sort_pre.facts, kernel_quiet, kernelIdeal_quiet, referenceIdeal_quiet, sort_quiet, sortIdeal_quiet,
  fun m g _ => sortIdeal_quiet m g trivial, sortReference_quiet, fun m g _ => sortReference_quiet m g trivial, trivial, same_result, trivial, same_sorted⟩

end Cert.Proof

end
